-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xFF7F0000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8192x1024 : Shape := ⟨3, ![2, 8192, 1024]⟩
abbrev S1x16x257 : Shape := ⟨3, ![1, 16, 257]⟩
abbrev S1x1024x1024 : Shape := ⟨3, ![1, 1024, 1024]⟩
abbrev S2x2x6144 : Shape := ⟨3, ![2, 2, 6144]⟩
abbrev S2x4x1024 : Shape := ⟨3, ![2, 4, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1x16x257 : S_.BroadcastsInDim S1x16x257 (![] : Fin 0 → Fin S1x16x257.rank)
  reducesTo_S1x16x257_S_d0_1_2 : S1x16x257.ReducesTo [0, 1, 2] S_

variable [Facts]

def fn {F : FTy → Type} [FloatOps F] (main_arg0 : FVec F S2x8192x1024 .f32) (main_arg1 : FVec F S2x8192x1024 .f32) (main_arg2 : FVec F S2x8192x1024 .f32) (main_arg3 : FVec F S2x8192x1024 .f32) (main_arg4 : FVec F S1x16x257 .f32) (main_arg5 : FVec F S1x1024x1024 .f32) (main_arg6 : FVec F S2x2x6144 .f32) (main_arg7 : FVec F S2x4x1024 .f32) : IVec S_ 1 :=
  let main_v0 : FVec F S2x8192x1024 .f32 := Host.absf main_arg1
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x8192x1024 .f32 := Host.absf main_arg2
  let main_cst_0 : FVec F S_ .f32 := constant S_ .f32 0x7F800000#32
  let main_v5 : FVec F S2x8192x1024 .f32 := broadcastInDim S2x8192x1024 ![] bcast_S_S2x8192x1024 main_cst_0
  let main_v6 : IVec S2x8192x1024 1 := cmpf .olt main_v4 main_v5
  let main_c_1 : IVec S_ 1 := constantI S_ 1 1#1
  let main_v7 : IVec S_ 1 := (fun x v => Host.reduce IntOp.andi x v reducesTo_S2x8192x1024_S_d0_1_2 h_S_) main_v6 main_c_1
  let main_v8 : IVec S_ 1 := andi main_v3 main_v7
  let main_v9 : FVec F S1x16x257 .f32 := Host.absf main_arg4
  let main_cst_2 : FVec F S_ .f32 := constant S_ .f32 0x7F800000#32
  let main_v10 : FVec F S1x16x257 .f32 := broadcastInDim S1x16x257 ![] bcast_S_S1x16x257 main_cst_2
  let main_v11 : IVec S1x16x257 1 := cmpf .olt main_v9 main_v10
  let main_c_3 : IVec S_ 1 := constantI S_ 1 1#1
  let main_v12 : IVec S_ 1 := (fun x v => Host.reduce IntOp.andi x v reducesTo_S1x16x257_S_d0_1_2 h_S_) main_v11 main_c_3
  let main_v13 : IVec S_ 1 := andi main_v8 main_v12
  main_v13
-- ==== Kernel.lean ====
abbrev S2x8192x1024 : Shape := ⟨3, ![2, 8192, 1024]⟩
abbrev S1x16x257 : Shape := ⟨3, ![1, 16, 257]⟩
abbrev S1x1024x1024 : Shape := ⟨3, ![1, 1024, 1024]⟩
abbrev S2x2x6144 : Shape := ⟨3, ![2, 2, 6144]⟩
abbrev S2x4x1024 : Shape := ⟨3, ![2, 4, 1024]⟩
abbrev S_ : Shape := ⟨0, ![]⟩
abbrev S2x8704x1024 : Shape := ⟨3, ![2, 8704, 1024]⟩
abbrev S64 : Shape := ⟨1, ![64]⟩
abbrev S64x1 : Shape := ⟨2, ![64, 1]⟩
abbrev S640 : Shape := ⟨1, ![640]⟩
abbrev S1x640 : Shape := ⟨2, ![1, 640]⟩
abbrev S64x640 : Shape := ⟨2, ![64, 640]⟩
abbrev S16x257 : Shape := ⟨2, ![16, 257]⟩
abbrev S64x640x1 : Shape := ⟨3, ![64, 640, 1]⟩
abbrev S16x64x640 : Shape := ⟨3, ![16, 64, 640]⟩
abbrev S1x16x64x640 : Shape := ⟨4, ![1, 16, 64, 640]⟩
abbrev S2x16x64x640 : Shape := ⟨4, ![2, 16, 64, 640]⟩
abbrev S2x8x128x640 : Shape := ⟨4, ![2, 8, 128, 640]⟩
abbrev S1024x1024 : Shape := ⟨2, ![1024, 1024]⟩
abbrev S2x2x6x1024 : Shape := ⟨4, ![2, 2, 6, 1024]⟩
abbrev S1x1536x1024 : Shape := ⟨3, ![1, 1536, 1024]⟩
abbrev S1x1x6x1024 : Shape := ⟨4, ![1, 1, 6, 1024]⟩
abbrev S1x4x1024 : Shape := ⟨3, ![1, 4, 1024]⟩
abbrev S64x128 : Shape := ⟨2, ![64, 128]⟩
abbrev S768x128 : Shape := ⟨2, ![768, 128]⟩
abbrev S32x128 : Shape := ⟨2, ![32, 128]⟩
abbrev S512x768 : Shape := ⟨2, ![512, 768]⟩
abbrev S1x64x128 : Shape := ⟨3, ![1, 64, 128]⟩
abbrev S512x128 : Shape := ⟨2, ![512, 128]⟩
abbrev S1536x1024 : Shape := ⟨2, ![1536, 1024]⟩
abbrev S32x640 : Shape := ⟨2, ![32, 640]⟩
abbrev S1x1x32x640 : Shape := ⟨4, ![1, 1, 32, 640]⟩
abbrev S32 : Shape := ⟨1, ![32]⟩
abbrev S32x1 : Shape := ⟨2, ![32, 1]⟩
abbrev S32x768 : Shape := ⟨2, ![32, 768]⟩
abbrev S768x256 : Shape := ⟨2, ![768, 256]⟩
abbrev S512x256 : Shape := ⟨2, ![512, 256]⟩
abbrev S1x1x1024 : Shape := ⟨3, ![1, 1, 1024]⟩
abbrev S1x1024 : Shape := ⟨2, ![1, 1024]⟩
abbrev S1x1x1x1024 : Shape := ⟨4, ![1, 1, 1, 1024]⟩
abbrev S1024 : Shape := ⟨1, ![1024]⟩
abbrev S1024x1 : Shape := ⟨2, ![1024, 1]⟩

abbrev nBuf : Space → Nat
  | .hbm => 129
  | .vmem => 16
  | .smem => 0
  | _ => 0

abbrev hbmTy0_0 (i : Nat) : BufTy := match i % 128 with
  | 0 => ⟨S2x8192x1024, .f32⟩
  | 1 => ⟨S2x8192x1024, .f32⟩
  | 2 => ⟨S2x8192x1024, .f32⟩
  | 3 => ⟨S2x8192x1024, .f32⟩
  | 4 => ⟨S1x16x257, .f32⟩
  | 5 => ⟨S1x1024x1024, .f32⟩
  | 6 => ⟨S2x2x6144, .f32⟩
  | 7 => ⟨S2x4x1024, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S2x8192x1024, .f32⟩
  | 15 => ⟨S2x8192x1024, .f32⟩
  | 16 => ⟨S2x8192x1024, .bf16⟩
  | 17 => ⟨S_, .i32⟩
  | 18 => ⟨S_, .f32⟩
  | 19 => ⟨S2x8704x1024, .f32⟩
  | 20 => ⟨S2x8704x1024, .bf16⟩
  | 21 => ⟨S_, .i32⟩
  | 22 => ⟨S_, .f32⟩
  | 23 => ⟨S2x8704x1024, .f32⟩
  | 24 => ⟨S2x8704x1024, .bf16⟩
  | 25 => ⟨S64, .i32⟩
  | 26 => ⟨S64x1, .i32⟩
  | 27 => ⟨S640, .i32⟩
  | 28 => ⟨S1x640, .i32⟩
  | 29 => ⟨S_, .i32⟩
  | 30 => ⟨S1x640, .i32⟩
  | 31 => ⟨S1x640, .i32⟩
  | 32 => ⟨S_, .i32⟩
  | 33 => ⟨S64x1, .i32⟩
  | 34 => ⟨S64x1, .i32⟩
  | 35 => ⟨S64x640, .i32⟩
  | 36 => ⟨S64x640, .i32⟩
  | 37 => ⟨S64x640, .i32⟩
  | 38 => ⟨S_, .i32⟩
  | 39 => ⟨S_, .i32⟩
  | 40 => ⟨S_, .i32⟩
  | 41 => ⟨S64x640, .i32⟩
  | 42 => ⟨S64x640, .i32⟩
  | 43 => ⟨S_, .i32⟩
  | 44 => ⟨S64x640, .i32⟩
  | 45 => ⟨S64x640, .i32⟩
  | 46 => ⟨S_, .i32⟩
  | 47 => ⟨S64x640, .i32⟩
  | 48 => ⟨S64x640, .i32⟩
  | 49 => ⟨S16x257, .f32⟩
  | 50 => ⟨S_, .i32⟩
  | 51 => ⟨S64x640, .i32⟩
  | 52 => ⟨S64x640, .i1⟩
  | 53 => ⟨S_, .i32⟩
  | 54 => ⟨S64x640, .i32⟩
  | 55 => ⟨S64x640, .i32⟩
  | 56 => ⟨S64x640, .i32⟩
  | 57 => ⟨S64x640x1, .i32⟩
  | 58 => ⟨S16x64x640, .f32⟩
  | 59 => ⟨S16x64x640, .f32⟩
  | 60 => ⟨S16x64x640, .f32⟩
  | 61 => ⟨S_, .i32⟩
  | 62 => ⟨S1x640, .i32⟩
  | 63 => ⟨S1x640, .i1⟩
  | 64 => ⟨S_, .i32⟩
  | 65 => ⟨S1x640, .i32⟩
  | 66 => ⟨S1x640, .i1⟩
  | 67 => ⟨S1x640, .i1⟩
  | 68 => ⟨S_, .f32⟩
  | 69 => ⟨S_, .f32⟩
  | 70 => ⟨S16x64x640, .i1⟩
  | 71 => ⟨S16x64x640, .f32⟩
  | 72 => ⟨S16x64x640, .f32⟩
  | 73 => ⟨S64, .i32⟩
  | 74 => ⟨S64x1, .i32⟩
  | 75 => ⟨S640, .i32⟩
  | 76 => ⟨S1x640, .i32⟩
  | 77 => ⟨S_, .i32⟩
  | 78 => ⟨S1x640, .i32⟩
  | 79 => ⟨S1x640, .i32⟩
  | 80 => ⟨S_, .i32⟩
  | 81 => ⟨S64x1, .i32⟩
  | 82 => ⟨S64x1, .i32⟩
  | 83 => ⟨S64x640, .i32⟩
  | 84 => ⟨S64x640, .i32⟩
  | 85 => ⟨S64x640, .i32⟩
  | 86 => ⟨S_, .i32⟩
  | 87 => ⟨S_, .i32⟩
  | 88 => ⟨S_, .i32⟩
  | 89 => ⟨S64x640, .i32⟩
  | 90 => ⟨S64x640, .i32⟩
  | 91 => ⟨S_, .i32⟩
  | 92 => ⟨S64x640, .i32⟩
  | 93 => ⟨S64x640, .i32⟩
  | 94 => ⟨S_, .i32⟩
  | 95 => ⟨S64x640, .i32⟩
  | 96 => ⟨S64x640, .i32⟩
  | 97 => ⟨S16x257, .f32⟩
  | 98 => ⟨S_, .i32⟩
  | 99 => ⟨S64x640, .i32⟩
  | 100 => ⟨S64x640, .i1⟩
  | 101 => ⟨S_, .i32⟩
  | 102 => ⟨S64x640, .i32⟩
  | 103 => ⟨S64x640, .i32⟩
  | 104 => ⟨S64x640, .i32⟩
  | 105 => ⟨S64x640x1, .i32⟩
  | 106 => ⟨S16x64x640, .f32⟩
  | 107 => ⟨S16x64x640, .f32⟩
  | 108 => ⟨S16x64x640, .f32⟩
  | 109 => ⟨S_, .i32⟩
  | 110 => ⟨S1x640, .i32⟩
  | 111 => ⟨S1x640, .i1⟩
  | 112 => ⟨S_, .i32⟩
  | 113 => ⟨S1x640, .i32⟩
  | 114 => ⟨S1x640, .i1⟩
  | 115 => ⟨S1x640, .i1⟩
  | 116 => ⟨S_, .f32⟩
  | 117 => ⟨S_, .f32⟩
  | 118 => ⟨S16x64x640, .i1⟩
  | 119 => ⟨S16x64x640, .f32⟩
  | 120 => ⟨S16x64x640, .f32⟩
  | 121 => ⟨S1x16x64x640, .f32⟩
  | 122 => ⟨S1x16x64x640, .f32⟩
  | 123 => ⟨S2x16x64x640, .f32⟩
  | 124 => ⟨S2x8x128x640, .f32⟩
  | 125 => ⟨S1024x1024, .f32⟩
  | 126 => ⟨S1024x1024, .bf16⟩
  | 127 => ⟨S2x2x6x1024, .f32⟩
  | _ => ⟨S2x8192x1024, .f32⟩

abbrev hbmTy0_1 (i : Nat) : BufTy := match i % 128 with
  | 0 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1536x1024, .bf16⟩
  | .local _ .vmem, ⟨5, _⟩ => ⟨S1x1536x1024, .bf16⟩
  | .local _ .vmem, ⟨6, _⟩ => ⟨S1x1536x1024, .bf16⟩
  | .local _ .vmem, ⟨7, _⟩ => ⟨S1x1536x1024, .bf16⟩
  | .local _ .vmem, ⟨8, _⟩ => ⟨S2x8x128x640, .f32⟩
  | .local _ .vmem, ⟨9, _⟩ => ⟨S1024x1024, .bf16⟩
  | .local _ .vmem, ⟨10, _⟩ => ⟨S1x1x6x1024, .f32⟩
  | .local _ .vmem, ⟨11, _⟩ => ⟨S1x1x6x1024, .f32⟩
  | .local _ .vmem, ⟨12, _⟩ => ⟨S1x4x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_c_6 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v21 : Ref sig .tc := ⟨.hbm, 45, rfl⟩
abbrev main_c_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_c_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_10 : Ref sig .tc := ⟨.hbm, 61, rfl⟩
abbrev main_v34 : Ref sig .tc := ⟨.hbm, 62, rfl⟩
abbrev main_v35 : Ref sig .tc := ⟨.hbm, 63, rfl⟩
abbrev main_c_11 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_12 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_13 : Ref sig .tc := ⟨.hbm, 77, rfl⟩
abbrev main_v44 : Ref sig .tc := ⟨.hbm, 78, rfl⟩
abbrev main_v45 : Ref sig .tc := ⟨.hbm, 79, rfl⟩
abbrev main_c_14 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_15 : Ref sig .tc := ⟨.hbm, 86, rfl⟩
abbrev main_c_16 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v51 : Ref sig .tc := ⟨.hbm, 93, rfl⟩
abbrev main_c_17 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_18 : Ref sig .tc := ⟨.hbm, 98, rfl⟩
abbrev main_v55 : Ref sig .tc := ⟨.hbm, 99, rfl⟩
abbrev main_v56 : Ref sig .tc := ⟨.hbm, 100, rfl⟩
abbrev main_c_19 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_20 : Ref sig .tc := ⟨.hbm, 109, rfl⟩
abbrev main_v64 : Ref sig .tc := ⟨.hbm, 110, rfl⟩
abbrev main_v65 : Ref sig .tc := ⟨.hbm, 111, rfl⟩
abbrev main_c_21 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_22 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x8x128x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x1024 : Shape := ⟨3, ![2, 8192, 1024]⟩
abbrev S1x16x257 : Shape := ⟨3, ![1, 16, 257]⟩
abbrev S1x1024x1024 : Shape := ⟨3, ![1, 1024, 1024]⟩
abbrev S2x2x6144 : Shape := ⟨3, ![2, 2, 6144]⟩
abbrev S2x4x1024 : Shape := ⟨3, ![2, 4, 1024]⟩
abbrev S1x2x6144 : Shape := ⟨3, ![1, 2, 6144]⟩
abbrev S2x6144 : Shape := ⟨2, ![2, 6144]⟩
abbrev S2x1024 : Shape := ⟨2, ![2, 1024]⟩
abbrev S2x8192x16x64 : Shape := ⟨4, ![2, 8192, 16, 64]⟩
abbrev S2x128x64x16x64 : Shape := ⟨5, ![2, 128, 64, 16, 64]⟩
abbrev S_ : Shape := ⟨0, ![]⟩
abbrev S2x136x64x16x64 : Shape := ⟨5, ![2, 136, 64, 16, 64]⟩
abbrev S128 : Shape := ⟨1, ![128]⟩
abbrev S128x1 : Shape := ⟨2, ![128, 1]⟩
abbrev S9 : Shape := ⟨1, ![9]⟩
abbrev S1x9 : Shape := ⟨2, ![1, 9]⟩
abbrev S128x9 : Shape := ⟨2, ![128, 9]⟩
abbrev S128x9x1 : Shape := ⟨3, ![128, 9, 1]⟩
abbrev S2x128x9x64x16x64 : Shape := ⟨6, ![2, 128, 9, 64, 16, 64]⟩
abbrev S2x128x576x16x64 : Shape := ⟨5, ![2, 128, 576, 16, 64]⟩
abbrev S2x16x128x64x576 : Shape := ⟨5, ![2, 16, 128, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S16x257 : Shape := ⟨2, ![16, 257]⟩
abbrev S64x576x1 : Shape := ⟨3, ![64, 576, 1]⟩
abbrev S16x64x576 : Shape := ⟨3, ![16, 64, 576]⟩
abbrev S1x16x1x64x576 : Shape := ⟨5, ![1, 16, 1, 64, 576]⟩
abbrev S128x576 : Shape := ⟨2, ![128, 576]⟩
abbrev S1x1x128x1x576 : Shape := ⟨5, ![1, 1, 128, 1, 576]⟩
abbrev S2x16x128x64 : Shape := ⟨4, ![2, 16, 128, 64]⟩
abbrev S2x16x128x64x1 : Shape := ⟨5, ![2, 16, 128, 64, 1]⟩
abbrev S2x128x16x64x64 : Shape := ⟨5, ![2, 128, 16, 64, 64]⟩
abbrev S1024x1024 : Shape := ⟨2, ![1024, 1024]⟩
abbrev S2x1x1024 : Shape := ⟨3, ![2, 1, 1024]⟩
abbrev S1x1x1024 : Shape := ⟨3, ![1, 1, 1024]⟩
abbrev S1024 : Shape := ⟨1, ![1024]⟩
abbrev S2x8192 : Shape := ⟨2, ![2, 8192]⟩
abbrev S2x8192x1 : Shape := ⟨3, ![2, 8192, 1]⟩

abbrev nBuf : Space → Nat
  | .hbm => 222
  | .vmem => 0
  | .smem => 0
  | _ => 0

abbrev hbmTy0_0 (i : Nat) : BufTy := match i % 128 with
  | 0 => ⟨S2x8192x1024, .f32⟩
  | 1 => ⟨S2x8192x1024, .f32⟩
  | 2 => ⟨S2x8192x1024, .f32⟩
  | 3 => ⟨S2x8192x1024, .f32⟩
  | 4 => ⟨S1x16x257, .f32⟩
  | 5 => ⟨S1x1024x1024, .f32⟩
  | 6 => ⟨S2x2x6144, .f32⟩
  | 7 => ⟨S2x4x1024, .f32⟩
  | 8 => ⟨S1x2x6144, .f32⟩
  | 9 => ⟨S2x6144, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S2x8192x16x64, .f32⟩
  | 17 => ⟨S2x128x64x16x64, .f32⟩
  | 18 => ⟨S_, .i32⟩
  | 19 => ⟨S_, .f32⟩
  | 20 => ⟨S2x136x64x16x64, .f32⟩
  | 21 => ⟨S128, .i32⟩
  | 22 => ⟨S128x1, .i32⟩
  | 23 => ⟨S9, .i32⟩
  | 24 => ⟨S1x9, .i32⟩
  | 25 => ⟨S128x9, .i32⟩
  | 26 => ⟨S128x9, .i32⟩
  | 27 => ⟨S128x9, .i32⟩
  | 28 => ⟨S_, .i32⟩
  | 29 => ⟨S128x9, .i32⟩
  | 30 => ⟨S128x9, .i1⟩
  | 31 => ⟨S_, .i32⟩
  | 32 => ⟨S128x9, .i32⟩
  | 33 => ⟨S128x9, .i32⟩
  | 34 => ⟨S128x9, .i32⟩
  | 35 => ⟨S128x9x1, .i32⟩
  | 36 => ⟨S2x128x9x64x16x64, .f32⟩
  | 37 => ⟨S2x128x576x16x64, .f32⟩
  | 38 => ⟨S2x8192x16x64, .f32⟩
  | 39 => ⟨S2x128x64x16x64, .f32⟩
  | 40 => ⟨S_, .i32⟩
  | 41 => ⟨S_, .f32⟩
  | 42 => ⟨S2x136x64x16x64, .f32⟩
  | 43 => ⟨S128, .i32⟩
  | 44 => ⟨S128x1, .i32⟩
  | 45 => ⟨S9, .i32⟩
  | 46 => ⟨S1x9, .i32⟩
  | 47 => ⟨S128x9, .i32⟩
  | 48 => ⟨S128x9, .i32⟩
  | 49 => ⟨S128x9, .i32⟩
  | 50 => ⟨S_, .i32⟩
  | 51 => ⟨S128x9, .i32⟩
  | 52 => ⟨S128x9, .i1⟩
  | 53 => ⟨S_, .i32⟩
  | 54 => ⟨S128x9, .i32⟩
  | 55 => ⟨S128x9, .i32⟩
  | 56 => ⟨S128x9, .i32⟩
  | 57 => ⟨S128x9x1, .i32⟩
  | 58 => ⟨S2x128x9x64x16x64, .f32⟩
  | 59 => ⟨S2x128x576x16x64, .f32⟩
  | 60 => ⟨S2x128x64x16x64, .f32⟩
  | 61 => ⟨S2x16x128x64x576, .f32⟩
  | 62 => ⟨S_, .f32⟩
  | 63 => ⟨S2x16x128x64x576, .f32⟩
  | 64 => ⟨S2x16x128x64x576, .f32⟩
  | 65 => ⟨S64, .i32⟩
  | 66 => ⟨S64x1, .i32⟩
  | 67 => ⟨S576, .i32⟩
  | 68 => ⟨S1x576, .i32⟩
  | 69 => ⟨S_, .i32⟩
  | 70 => ⟨S_, .i32⟩
  | 71 => ⟨S1x576, .i32⟩
  | 72 => ⟨S1x576, .i32⟩
  | 73 => ⟨S1x576, .i32⟩
  | 74 => ⟨S_, .i32⟩
  | 75 => ⟨S1x576, .i32⟩
  | 76 => ⟨S1x576, .i1⟩
  | 77 => ⟨S1x576, .i32⟩
  | 78 => ⟨S1x576, .i32⟩
  | 79 => ⟨S_, .i32⟩
  | 80 => ⟨S1x576, .i32⟩
  | 81 => ⟨S1x576, .i1⟩
  | 82 => ⟨S1x576, .i1⟩
  | 83 => ⟨S_, .i32⟩
  | 84 => ⟨S1x576, .i32⟩
  | 85 => ⟨S1x576, .i32⟩
  | 86 => ⟨S1x576, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S1x576, .i32⟩
  | 94 => ⟨S1x576, .i32⟩
  | 95 => ⟨S_, .i32⟩
  | 96 => ⟨S1x576, .i32⟩
  | 97 => ⟨S1x576, .i1⟩
  | 98 => ⟨S_, .i32⟩
  | 99 => ⟨S1x576, .i32⟩
  | 100 => ⟨S1x576, .i1⟩
  | 101 => ⟨S_, .i32⟩
  | 102 => ⟨S_, .i1⟩
  | 103 => ⟨S1x576, .i1⟩
  | 104 => ⟨S1x576, .i1⟩
  | 105 => ⟨S1x576, .i1⟩
  | 106 => ⟨S1x576, .i32⟩
  | 107 => ⟨S1x576, .i32⟩
  | 108 => ⟨S1x576, .i32⟩
  | 109 => ⟨S_, .i32⟩
  | 110 => ⟨S1x576, .i32⟩
  | 111 => ⟨S1x576, .i32⟩
  | 112 => ⟨S_, .i32⟩
  | 113 => ⟨S1x576, .i32⟩
  | 114 => ⟨S1x576, .i32⟩
  | 115 => ⟨S64x576, .i32⟩
  | 116 => ⟨S64x576, .i32⟩
  | 117 => ⟨S64x576, .i32⟩
  | 118 => ⟨S64x576, .i32⟩
  | 119 => ⟨S64x576, .i32⟩
  | 120 => ⟨S_, .i32⟩
  | 121 => ⟨S_, .i32⟩
  | 122 => ⟨S_, .i32⟩
  | 123 => ⟨S64x576, .i32⟩
  | 124 => ⟨S64x576, .i32⟩
  | 125 => ⟨S_, .i32⟩
  | 126 => ⟨S64x576, .i32⟩
  | 127 => ⟨S64x576, .i32⟩
  | _ => ⟨S2x8192x1024, .f32⟩

abbrev hbmTy0_1 (i : Nat) : BufTy := match i % 128 with
  | 0 => ⟨S_, .i32⟩
  | 1 => ⟨S64x576, .i32⟩
  | 2 => ⟨S64x576, .i32⟩
  | 3 => ⟨S16x257, .f32⟩
  | 4 => ⟨S_, .i32⟩
  | 5 => ⟨S64x576, .i32⟩
  | 6 => ⟨S64x576, .i1⟩
  | 7 => ⟨S_, .i32⟩
  | 8 => ⟨S64x576, .i32⟩
  | 9 => ⟨S64x576, .i32⟩
  | 10 => ⟨S64x576, .i32⟩
  | 11 => ⟨S64x576x1, .i32⟩
  | 12 => ⟨S16x64x576, .f32⟩
  | 13 => ⟨S1x16x1x64x576, .f32⟩
  | 14 => ⟨S2x16x128x64x576, .f32⟩
  | 15 => ⟨S2x16x128x64x576, .f32⟩
  | 16 => ⟨S128, .i32⟩
  | 17 => ⟨S128x1, .i32⟩
  | 18 => ⟨S576, .i32⟩
  | 19 => ⟨S1x576, .i32⟩
  | 20 => ⟨S_, .i32⟩
  | 21 => ⟨S_, .i32⟩
  | 22 => ⟨S1x576, .i32⟩
  | 23 => ⟨S1x576, .i32⟩
  | 24 => ⟨S1x576, .i32⟩
  | 25 => ⟨S_, .i32⟩
  | 26 => ⟨S1x576, .i32⟩
  | 27 => ⟨S1x576, .i1⟩
  | 28 => ⟨S1x576, .i32⟩
  | 29 => ⟨S1x576, .i32⟩
  | 30 => ⟨S_, .i32⟩
  | 31 => ⟨S1x576, .i32⟩
  | 32 => ⟨S1x576, .i1⟩
  | 33 => ⟨S1x576, .i1⟩
  | 34 => ⟨S_, .i32⟩
  | 35 => ⟨S1x576, .i32⟩
  | 36 => ⟨S1x576, .i32⟩
  | 37 => ⟨S1x576, .i32⟩
  | 38 => ⟨S128x576, .i32⟩
  | 39 => ⟨S128x576, .i32⟩
  | 40 => ⟨S128x576, .i32⟩
  | 41 => ⟨S_, .i32⟩
  | 42 => ⟨S128x576, .i32⟩
  | 43 => ⟨S128x576, .i32⟩
  | 44 => ⟨S_, .i32⟩
  | 45 => ⟨S128x576, .i32⟩
  | 46 => ⟨S128x576, .i1⟩
  | 47 => ⟨S1x1x128x1x576, .i1⟩
  | 48 => ⟨S_, .f32⟩
  | 49 => ⟨S_, .f32⟩
  | 50 => ⟨S2x16x128x64x576, .i1⟩
  | 51 => ⟨S2x16x128x64x576, .f32⟩
  | 52 => ⟨S2x16x128x64x576, .f32⟩
  | 53 => ⟨S_, .f32⟩
  | 54 => ⟨S2x16x128x64, .f32⟩
  | 55 => ⟨S_, .f32⟩
  | 56 => ⟨S2x16x128x64, .f32⟩
  | 57 => ⟨S2x16x128x64, .f32⟩
  | 58 => ⟨S2x16x128x64x1, .f32⟩
  | 59 => ⟨S2x16x128x64x576, .f32⟩
  | 60 => ⟨S2x16x128x64x576, .f32⟩
  | 61 => ⟨S2x16x128x64x576, .f32⟩
  | 62 => ⟨S_, .f32⟩
  | 63 => ⟨S2x16x128x64, .f32⟩
  | 64 => ⟨S2x16x128x64x1, .f32⟩
  | 65 => ⟨S2x16x128x64x576, .f32⟩
  | 66 => ⟨S2x16x128x64x576, .f32⟩
  | 67 => ⟨S2x128x16x64x64, .f32⟩
  | 68 => ⟨S2x128x64x16x64, .f32⟩
  | 69 => ⟨S2x8192x1024, .f32⟩
  | 70 => ⟨S1024x1024, .f32⟩
  | 71 => ⟨S2x8192x1024, .f32⟩
  | 72 => ⟨S2x1x1024, .f32⟩
  | 73 => ⟨S1x1x1024, .f32⟩
  | 74 => ⟨S1024, .f32⟩
  | 75 => ⟨S2x8192x1024, .f32⟩
  | 76 => ⟨S_, .f32⟩
  | 77 => ⟨S2x8192, .f32⟩
  | 78 => ⟨S2x8192x1, .f32⟩
  | 79 => ⟨S_, .f32⟩
  | 80 => ⟨S2x8192x1, .f32⟩
  | 81 => ⟨S2x8192x1, .f32⟩
  | 82 => ⟨S_, .f32⟩
  | 83 => ⟨S2x8192x1, .f32⟩
  | 84 => ⟨S2x8192x1, .f32⟩
  | 85 => ⟨S2x8192x1, .f32⟩
  | 86 => ⟨S2x8192x1024, .f32⟩
  | 87 => ⟨S2x8192x1024, .f32⟩
  | 88 => ⟨S1x1x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_3 : Ref sig .tc := ⟨.hbm, 50, rfl⟩
abbrev main_v36 : Ref sig .tc := ⟨.hbm, 51, rfl⟩
abbrev main_v37 : Ref sig .tc := ⟨.hbm, 52, rfl⟩
abbrev main_c_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_5 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_c : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_0 : Ref sig .tc := ⟨.hbm, 83, rfl⟩
abbrev main_call2_v12 : Ref sig .tc := ⟨.hbm, 84, rfl⟩
abbrev main_call2_v13 : Ref sig .tc := ⟨.hbm, 85, rfl⟩
abbrev main_v52 : Ref sig .tc := ⟨.hbm, 86, rfl⟩
abbrev main_c_6 : Ref sig .tc := ⟨.hbm, 87, rfl⟩
abbrev main_call3_v0 : Ref sig .tc := ⟨.hbm, 88, rfl⟩
abbrev main_call3_c : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_1 : Ref sig .tc := ⟨.hbm, 95, rfl⟩
abbrev main_call3_v5 : Ref sig .tc := ⟨.hbm, 96, rfl⟩
abbrev main_call3_v6 : Ref sig .tc := ⟨.hbm, 97, rfl⟩
abbrev main_call3_c_2 : Ref sig .tc := ⟨.hbm, 98, rfl⟩
abbrev main_call3_v7 : Ref sig .tc := ⟨.hbm, 99, rfl⟩
abbrev main_call3_v8 : Ref sig .tc := ⟨.hbm, 100, rfl⟩
abbrev main_call3_c_3 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_v53 : Ref sig .tc := ⟨.hbm, 108, rfl⟩
abbrev main_c_7 : Ref sig .tc := ⟨.hbm, 109, rfl⟩
abbrev main_v54 : Ref sig .tc := ⟨.hbm, 110, rfl⟩
abbrev main_v55 : Ref sig .tc := ⟨.hbm, 111, rfl⟩
abbrev main_c_8 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_c_9 : Ref sig .tc := ⟨.hbm, 120, rfl⟩
abbrev main_c_10 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v63 : Ref sig .tc := ⟨.hbm, 127, rfl⟩
abbrev main_c_11 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_c_12 : Ref sig .tc := ⟨.hbm, 132, rfl⟩
abbrev main_v67 : Ref sig .tc := ⟨.hbm, 133, rfl⟩
abbrev main_v68 : Ref sig .tc := ⟨.hbm, 134, rfl⟩
abbrev main_c_13 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_c_14 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_c : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_0 : Ref sig .tc := ⟨.hbm, 162, rfl⟩
abbrev main_call5_v12 : Ref sig .tc := ⟨.hbm, 163, rfl⟩
abbrev main_call5_v13 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_c_15 : Ref sig .tc := ⟨.hbm, 169, rfl⟩
abbrev main_v85 : Ref sig .tc := ⟨.hbm, 170, rfl⟩
abbrev main_v86 : Ref sig .tc := ⟨.hbm, 171, rfl⟩
abbrev main_c_16 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_cst_17 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_v90 : Ref sig .tc := ⟨.hbm, 180, rfl⟩
abbrev main_cst_18 : Ref sig .tc := ⟨.hbm, 181, rfl⟩
abbrev main_v91 : Ref sig .tc := ⟨.hbm, 182, rfl⟩
abbrev main_cst_19 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_cst_20 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_cst_21 : Ref sig .tc := ⟨.hbm, 204, rfl⟩
abbrev main_v111 : Ref sig .tc := ⟨.hbm, 205, rfl⟩
abbrev main_v112 : Ref sig .tc := ⟨.hbm, 206, rfl⟩
abbrev main_cst_22 : Ref sig .tc := ⟨.hbm, 207, rfl⟩
abbrev main_v113 : Ref sig .tc := ⟨.hbm, 208, rfl⟩
abbrev main_v114 : Ref sig .tc := ⟨.hbm, 209, rfl⟩
abbrev main_cst_23 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x2x6144 : Shape := ⟨3, ![2, 2, 6144]⟩
abbrev S2x4x1024 : Shape := ⟨3, ![2, 4, 1024]⟩
abbrev S2x1024x5632 : Shape := ⟨3, ![2, 1024, 5632]⟩
abbrev S2x2816x1024 : Shape := ⟨3, ![2, 2816, 1024]⟩
abbrev S2x2x6x1024 : Shape := ⟨4, ![2, 2, 6, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1x1x6x1024 : Shape := ⟨4, ![1, 1, 6, 1024]⟩
abbrev S1x4x1024 : Shape := ⟨3, ![1, 4, 1024]⟩
abbrev S1x1x1x1024 : Shape := ⟨4, ![1, 1, 1, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x2816 : Shape := ⟨2, ![1024, 2816]⟩
abbrev S256x2816 : Shape := ⟨2, ![256, 2816]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x2x6144, .f32⟩
  | .hbm, ⟨2, _⟩ => ⟨S2x4x1024, .f32⟩
  | .hbm, ⟨3, _⟩ => ⟨S2x1024x5632, .f32⟩
  | .hbm, ⟨4, _⟩ => ⟨S2x2816x1024, .f32⟩
  | .hbm, ⟨5, _⟩ => ⟨S2x2x6x1024, .f32⟩
  | .hbm, ⟨6, _⟩ => ⟨S1x1024x5632, .f32⟩
  | .hbm, ⟨7, _⟩ => ⟨S1024x5632, .f32⟩
  | .hbm, ⟨8, _⟩ => ⟨S1024x5632, .bf16⟩
  | .hbm, ⟨9, _⟩ => ⟨S1x2816x1024, .f32⟩
  | .hbm, ⟨10, _⟩ => ⟨S2816x1024, .f32⟩
  | .hbm, ⟨11, _⟩ => ⟨S2816x1024, .bf16⟩
  | .hbm, ⟨12, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x4x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024x1024, .f32⟩
  | .local _ .vmem, ⟨8, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2x8192x1024 : Shape := ⟨3, ![2, 8192, 1024]⟩
abbrev S2x2x6144 : Shape := ⟨3, ![2, 2, 6144]⟩
abbrev S2x4x1024 : Shape := ⟨3, ![2, 4, 1024]⟩
abbrev S2x1024x5632 : Shape := ⟨3, ![2, 1024, 5632]⟩
abbrev S2x2816x1024 : Shape := ⟨3, ![2, 2816, 1024]⟩
abbrev S1x2x6144 : Shape := ⟨3, ![1, 2, 6144]⟩
abbrev S2x6144 : Shape := ⟨2, ![2, 6144]⟩
abbrev S2x1024 : Shape := ⟨2, ![2, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S2x1x1024 : Shape := ⟨3, ![2, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2x6144, .f32⟩
  | .hbm, ⟨2, _⟩ => ⟨S2x4x1024, .f32⟩
  | .hbm, ⟨3, _⟩ => ⟨S2x1024x5632, .f32⟩
  | .hbm, ⟨4, _⟩ => ⟨S2x2816x1024, .f32⟩
  | .hbm, ⟨5, _⟩ => ⟨S1x2x6144, .f32⟩
  | .hbm, ⟨6, _⟩ => ⟨S2x6144, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1x1x1024, .f32⟩
  | .hbm, ⟨14, _⟩ => ⟨S1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S1x1024x5632, .f32⟩
  | .hbm, ⟨41, _⟩ => ⟨S1024x5632, .f32⟩
  | .hbm, ⟨42, _⟩ => ⟨S1x2816x1024, .f32⟩
  | .hbm, ⟨43, _⟩ => ⟨S2816x1024, .f32⟩
  | .hbm, ⟨44, _⟩ => ⟨S2x8192x5632, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S_, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x1024, .f32⟩
  | .hbm, ⟨58, _⟩ => ⟨S2x1x1024, .f32⟩
  | .hbm, ⟨59, _⟩ => ⟨S1x1x1024, .f32⟩
  | .hbm, ⟨60, _⟩ => ⟨S1024, .f32⟩
  | .hbm, ⟨61, _⟩ => ⟨S2x8192x1024, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x1024, .f32⟩
  | .hbm, ⟨73, _⟩ => ⟨S2x8192x1024, .f32⟩
  | .hbm, ⟨74, _⟩ => ⟨S1x1x1024, .f32⟩
  | .hbm, ⟨75, _⟩ => ⟨S2x8192x1024, .f32⟩
  | .hbm, ⟨76, _⟩ => ⟨S2x8192x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x2x6144 : Shape := ⟨3, ![2, 2, 6144]⟩
abbrev S2x2048 : Shape := ⟨2, ![2, 2048]⟩
abbrev S2x4x1024 : Shape := ⟨3, ![2, 4, 1024]⟩
abbrev S1024 : Shape := ⟨1, ![1024]⟩
abbrev S1024x2048 : Shape := ⟨2, ![1024, 2048]⟩
abbrev S1x1024x1024 : Shape := ⟨3, ![1, 1024, 1024]⟩
abbrev S2x2x6x1024 : Shape := ⟨4, ![2, 2, 6, 1024]⟩
abbrev S1x2x2x1024 : Shape := ⟨4, ![1, 2, 2, 1024]⟩
abbrev S1x1024 : Shape := ⟨2, ![1, 1024]⟩
abbrev S1024x1024 : Shape := ⟨2, ![1024, 1024]⟩
abbrev S2x8704x1024 : Shape := ⟨3, ![2, 8704, 1024]⟩
abbrev S1x512x1024 : Shape := ⟨3, ![1, 512, 1024]⟩
abbrev S1x1x6x1024 : Shape := ⟨4, ![1, 1, 6, 1024]⟩
abbrev S1x1x2x1024 : Shape := ⟨4, ![1, 1, 2, 1024]⟩
abbrev S1x4x1024 : Shape := ⟨3, ![1, 4, 1024]⟩
abbrev S512x1024 : Shape := ⟨2, ![512, 1024]⟩
abbrev S512 : Shape := ⟨1, ![512]⟩
abbrev S512x1 : Shape := ⟨2, ![512, 1]⟩
abbrev S1x1x1x1024 : Shape := ⟨4, ![1, 1, 1, 1024]⟩
abbrev S1x1x1024 : Shape := ⟨3, ![1, 1, 1024]⟩

abbrev nBuf : Space → Nat
  | .hbm => 16
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x2x6144, .f32⟩
  | .hbm, ⟨2, _⟩ => ⟨S2x2048, .f32⟩
  | .hbm, ⟨3, _⟩ => ⟨S2x4x1024, .f32⟩
  | .hbm, ⟨4, _⟩ => ⟨S1024, .f32⟩
  | .hbm, ⟨5, _⟩ => ⟨S1024x2048, .f32⟩
  | .hbm, ⟨6, _⟩ => ⟨S1x1024x1024, .f32⟩
  | .hbm, ⟨7, _⟩ => ⟨S2x2x6x1024, .f32⟩
  | .hbm, ⟨8, _⟩ => ⟨S1x2x2x1024, .f32⟩
  | .hbm, ⟨9, _⟩ => ⟨S1x1024, .f32⟩
  | .hbm, ⟨10, _⟩ => ⟨S1024x2048, .bf16⟩
  | .hbm, ⟨11, _⟩ => ⟨S1024x1024, .f32⟩
  | .hbm, ⟨12, _⟩ => ⟨S1024x1024, .bf16⟩
  | .hbm, ⟨13, _⟩ => ⟨S2x8704x1024, .bf16⟩
  | .hbm, ⟨14, _⟩ => ⟨S2x8704x1024, .bf16⟩
  | .hbm, ⟨15, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x2x1024, .f32⟩
  | .local _ .vmem, ⟨5, _⟩ => ⟨S1x1x2x1024, .f32⟩
  | .local _ .vmem, ⟨6, _⟩ => ⟨S1x4x1024, .f32⟩
  | .local _ .vmem, ⟨7, _⟩ => ⟨S1x1024, .f32⟩
  | .local _ .vmem, ⟨8, _⟩ => ⟨S1024x2048, .bf16⟩
  | .local _ .vmem, ⟨9, _⟩ => ⟨S1024x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S2x8192x1024 : Shape := ⟨3, ![2, 8192, 1024]⟩
abbrev S2x2x6144 : Shape := ⟨3, ![2, 2, 6144]⟩
abbrev S2x2048 : Shape := ⟨2, ![2, 2048]⟩
abbrev S2x4x1024 : Shape := ⟨3, ![2, 4, 1024]⟩
abbrev S1024 : Shape := ⟨1, ![1024]⟩
abbrev S1024x2048 : Shape := ⟨2, ![1024, 2048]⟩
abbrev S1x1024x1024 : Shape := ⟨3, ![1, 1024, 1024]⟩
abbrev S1x2x6144 : Shape := ⟨3, ![1, 2, 6144]⟩
abbrev S2x6144 : Shape := ⟨2, ![2, 6144]⟩
abbrev S2x1024 : Shape := ⟨2, ![2, 1024]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩
abbrev S2x1x1024 : Shape := ⟨3, ![2, 1, 1024]⟩
abbrev S2x8192x2048 : Shape := ⟨3, ![2, 8192, 2048]⟩
abbrev S1024x1024 : Shape := ⟨2, ![1024, 1024]⟩
abbrev S2x8704x1024 : Shape := ⟨3, ![2, 8704, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2x6144, .f32⟩
  | .hbm, ⟨2, _⟩ => ⟨S2x2048, .f32⟩
  | .hbm, ⟨3, _⟩ => ⟨S2x4x1024, .f32⟩
  | .hbm, ⟨4, _⟩ => ⟨S1024, .f32⟩
  | .hbm, ⟨5, _⟩ => ⟨S1024x2048, .f32⟩
  | .hbm, ⟨6, _⟩ => ⟨S1x1024x1024, .f32⟩
  | .hbm, ⟨7, _⟩ => ⟨S1x2x6144, .f32⟩
  | .hbm, ⟨8, _⟩ => ⟨S2x6144, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S1x1x1024, .f32⟩
  | .hbm, ⟨16, _⟩ => ⟨S1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S2x1x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x1x1024, .f32⟩
  | .hbm, ⟨40, _⟩ => ⟨S2x8192x1024, .f32⟩
  | .hbm, ⟨41, _⟩ => ⟨S2x8192x1024, .f32⟩
  | .hbm, ⟨42, _⟩ => ⟨S2x1024, .f32⟩
  | .hbm, ⟨43, _⟩ => ⟨S2x1024, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S2x1x1024, .f32⟩
  | .hbm, ⟨61, _⟩ => ⟨S_, .f32⟩
  | .hbm, ⟨62, _⟩ => ⟨S2x1x1024, .f32⟩
  | .hbm, ⟨63, _⟩ => ⟨S2x1x1024, .f32⟩
  | .hbm, ⟨64, _⟩ => ⟨S2x8192x1024, .f32⟩
  | .hbm, ⟨65, _⟩ => ⟨S2x8192x1024, .f32⟩
  | .hbm, ⟨66, _⟩ => ⟨S2x1x1024, .f32⟩
  | .hbm, ⟨67, _⟩ => ⟨S2x8192x1024, .f32⟩
  | .hbm, ⟨68, _⟩ => ⟨S2x8192x1024, .f32⟩
  | .hbm, ⟨69, _⟩ => ⟨S2x8192x2048, .f32⟩
  | .hbm, ⟨70, _⟩ => ⟨S2x8192x1024, .f32⟩
  | .hbm, ⟨71, _⟩ => ⟨S2x8192x1024, .f32⟩
  | .hbm, ⟨72, _⟩ => ⟨S1024x1024, .f32⟩
  | .hbm, ⟨73, _⟩ => ⟨S2x8192x1024, .f32⟩
  | .hbm, ⟨74, _⟩ => ⟨S_, .f32⟩
  | .hbm, ⟨75, _⟩ => ⟨S2x8192x1024, .f32⟩
  | .hbm, ⟨76, _⟩ => ⟨S2x8192x1024, .f32⟩
  | .hbm, ⟨77, _⟩ => ⟨S_, .i32⟩
  | .hbm, ⟨78, _⟩ => ⟨S_, .f32⟩
  | .hbm, ⟨79, _⟩ => ⟨S2x8704x1024, .f32⟩
  | .hbm, ⟨80, _⟩ => ⟨S2x8704x1024, .bf16⟩
  | .hbm, ⟨81, _⟩ => ⟨S_, .i32⟩
  | .hbm, ⟨82, _⟩ => ⟨S_, .f32⟩
  | .hbm, ⟨83, _⟩ => ⟨S2x8704x1024, .f32⟩
  | .hbm, ⟨84, _⟩ => ⟨S2x8704x1024, .bf16⟩
  | .hbm, ⟨85, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_c : Ref sig .tc := ⟨.hbm, 77, rfl⟩
abbrev main_call0_v0 : Ref sig .tc := ⟨.hbm, 78, rfl⟩
abbrev main_v61 : Ref sig .tc := ⟨.hbm, 79, rfl⟩
abbrev main_v62 : Ref sig .tc := ⟨.hbm, 80, rfl⟩
abbrev main_c_8 : Ref sig .tc := ⟨.hbm, 81, rfl⟩
abbrev main_call1_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Proof.Soft.lean ====
module

public import Idealize.ShloMosaic.PureOps.Ideal

/-! # A band of logits in base two, and the softmax it is

Facts of the extended reals only: a row of logits that are real numbers or `⊥`, at least one of
them real; the same row times `1 / log 2`, set inside a wider row whose other entries are `⊥`; and
the quotient of the weighted sum by the sum of the weights. -/

@[expose] public section

namespace Cert.Soft

open Idealize.ShloMosaic

/-- The factor that turns natural exponents into exponents of two. -/
noncomputable def lg : EReal := ((1 / Real.log 2 : ℝ) : EReal)

theorem lg_pos : (0 : ℝ) < 1 / Real.log 2 := one_div_pos.mpr (Real.log_pos one_lt_two)

theorem lg_bot : lg * ⊥ = ⊥ := EReal.coe_mul_bot_of_pos lg_pos

theorem lg_coe (r : ℝ) : lg * (r : EReal) = ((1 / Real.log 2 * r : ℝ) : EReal) := by
  rw [lg, ← EReal.coe_mul]

/-- A row that is nowhere `⊤` and somewhere above `⊥` has a real greatest entry. -/
theorem top_entry {n : ℕ} (s : Fin n → EReal) (hs : ∀ i, s i ≠ ⊤) (i₀ : Fin n) (h₀ : s i₀ ≠ ⊥) :
    ∃ (M : ℝ) (i : Fin n), s i = M ∧ ∀ j, s j ≤ M := by
  obtain ⟨i, -, hi⟩ := Finset.exists_max_image Finset.univ s ⟨i₀, Finset.mem_univ _⟩
  have hb : s i ≠ ⊥ := fun h => h₀ (le_bot_iff.mp (h ▸ hi i₀ (Finset.mem_univ _)))
  refine ⟨(s i).toReal, i, (EReal.coe_toReal (hs i) hb).symm, fun j => ?_⟩
  rw [EReal.coe_toReal (hs i) hb]
  exact hi j (Finset.mem_univ _)

/-- The fold of `max` from `⊥` is the entry that bounds the others. -/
theorem fold_eq {n : ℕ} (s : Fin n → EReal) (M : EReal) (i : Fin n) (hi : s i = M) (hM : ∀ j, s j ≤ M) :
    Finset.univ.fold max ⊥ s = M := by
  show Finset.univ.sup s = M
  exact le_antisymm (Finset.sup_le fun j _ => hM j) (hi ▸ Finset.le_sup (Finset.mem_univ i))

/-- The power of two of a scaled difference is the exponential of the difference. -/
theorem exp2_lg (y : EReal) (hy : y ≠ ⊤) (M : ℝ) :
    Ideal.exp2 (lg * y - ((1 / Real.log 2 * M : ℝ) : EReal)) = Ideal.exp (y - (M : EReal)) := by
  induction y with
  | bot => rw [lg_bot, EReal.bot_sub, EReal.bot_sub]; rfl
  | top => exact absurd rfl hy
  | coe r =>
    rw [lg_coe, ← EReal.coe_sub, ← EReal.coe_sub, Ideal.exp2_coe, Ideal.exp_coe]
    congr 1
    change (2 : ℝ) ^ (1 / Real.log 2 * r - 1 / Real.log 2 * M) = Real.exp (r - M)
    rw [Real.rpow_def_of_pos two_pos]
    congr 1
    have := (Real.log_pos one_lt_two).ne'
    field_simp

theorem exp_nonneg (y : EReal) : 0 ≤ Ideal.exp y := by
  induction y with
  | bot => exact le_rfl
  | top => exact le_top
  | coe r => rw [Ideal.exp_coe]; exact_mod_cast (Real.exp_pos r).le

theorem exp_real (y : EReal) (hy : y ≠ ⊤) (M : ℝ) : ∃ r : ℝ, 0 ≤ r ∧ Ideal.exp (y - (M : EReal)) = r := by
  induction y with
  | bot => exact ⟨0, le_rfl, by rw [EReal.bot_sub]; rfl⟩
  | top => exact absurd rfl hy
  | coe r => exact ⟨Real.exp (r - M), (Real.exp_pos _).le, by rw [← EReal.coe_sub]; rfl⟩

/-- A sum whose terms vanish outside a stretch is the sum over the stretch. -/
theorem sum_stretch {N n a : ℕ} (h : a + n ≤ N) (f : Fin N → EReal)
    (hf : ∀ x : Fin N, ¬ (a ≤ (x : ℕ) ∧ (x : ℕ) < a + n) → f x = 0) :
    ∑ x, f x = ∑ k : Fin n, f ⟨a + k, by omega⟩ := by
  refine (Finset.sum_of_injOn (fun k : Fin n => (⟨a + k, by omega⟩ : Fin N)) ?_ ?_ ?_ ?_).symm
  · intro x _ y _ hxy
    have := congrArg Fin.val hxy
    simp only at this
    exact Fin.ext (by omega)
  · intro x _; exact Finset.mem_coe.mpr (Finset.mem_univ _)
  · intro x _ hx
    refine hf x fun hc => hx ?_
    exact ⟨⟨(x : ℕ) - a, by omega⟩, Finset.mem_coe.mpr (Finset.mem_univ _), Fin.ext (by simp only; omega)⟩
  · intro x _; rfl

/-- A nonnegative real distributes over a sum of extended reals. -/
theorem sum_mul_real {n : ℕ} (f : Fin n → EReal) (r : ℝ) (hr : 0 ≤ r) :
    (∑ k, f k) * (r : EReal) = ∑ k, f k * (r : EReal) := by
  induction n with
  | zero => simp
  | succ n ih =>
    rw [Fin.sum_univ_succ, Fin.sum_univ_succ, ← ih, mul_comm, mul_comm (f 0), mul_comm (∑ i : Fin n, f i.succ)]
    exact EReal.left_distrib_of_nonneg_of_ne_top (by exact_mod_cast hr) (EReal.coe_ne_top r) _ _

theorem coe_sum {n : ℕ} (w : Fin n → ℝ) : ((∑ j, w j : ℝ) : EReal) = ∑ j, (w j : EReal) := by
  induction n with
  | zero => simp
  | succ n ih => rw [Fin.sum_univ_succ, Fin.sum_univ_succ, EReal.coe_add, ih]

/-- The heart of it. `s` is the band of logits, `T` the slab of scaled logits around it, `E` the row
    of powers of two with zeros around the slab: the weighted sum over the window divided by the sum
    of the weights is the sum weighted by the softmax of the band. -/
theorem core {n m N : ℕ} (s : Fin n → EReal) (hs : ∀ i, s i ≠ ⊤) (i₀ : Fin n) (h₀ : s i₀ ≠ ⊥)
    (o t : ℕ) (ho : o + n ≤ m) (ht : t + m ≤ N) (T : Fin m → EReal) (E V : Fin N → EReal)
    (hT : ∀ k : Fin n, T ⟨o + k, by omega⟩ = lg * s k)
    (hT' : ∀ u : Fin m, ¬ (o ≤ (u : ℕ) ∧ (u : ℕ) < o + n) → T u = ⊥)
    (hE : ∀ u : Fin m, E ⟨t + u, by omega⟩ = Ideal.exp2 (T u - Finset.univ.fold max ⊥ T))
    (hE' : ∀ x : Fin N, ¬ (t ≤ (x : ℕ) ∧ (x : ℕ) < t + m) → E x = 0) :
    Ideal.div (∑ x, E x * V x) (∑ x, E x) =
      ∑ k : Fin n, Ideal.div (Ideal.exp (s k - Finset.univ.fold max ⊥ s))
        (∑ j, Ideal.exp (s j - Finset.univ.fold max ⊥ s)) * V ⟨t + o + k, by omega⟩ := by
  obtain ⟨M, i, hi, hM⟩ := top_entry s hs i₀ h₀
  have hsup : Finset.univ.fold max ⊥ s = (M : EReal) := fold_eq s M i hi hM
  have hTsup : Finset.univ.fold max ⊥ T = ((1 / Real.log 2 * M : ℝ) : EReal) := by
    refine fold_eq T _ ⟨o + i, by omega⟩ (by rw [hT, hi, lg_coe]) fun u => ?_
    by_cases hu : o ≤ (u : ℕ) ∧ (u : ℕ) < o + n
    · have : u = ⟨o + ((⟨(u : ℕ) - o, by omega⟩ : Fin n) : ℕ), by simp only; omega⟩ := Fin.ext (by simp only; omega)
      rw [this, hT, ← lg_coe]
      exact mul_le_mul_of_nonneg_left (hM _) (by rw [lg]; exact_mod_cast lg_pos.le)
    · rw [hT' u hu]; exact bot_le
  rw [hTsup] at hE
  have hEb : ∀ k : Fin n, E ⟨t + o + k, by omega⟩ = Ideal.exp (s k - (M : EReal)) := by
    intro k
    have := hE ⟨o + k, by omega⟩
    rw [hT, exp2_lg _ (hs k)] at this
    rw [← this]
    congr 1
    exact Fin.ext (by simp only; omega)
  have hEz : ∀ x : Fin N, ¬ (t + o ≤ (x : ℕ) ∧ (x : ℕ) < t + o + n) → E x = 0 := by
    intro x hx
    by_cases hc : t ≤ (x : ℕ) ∧ (x : ℕ) < t + m
    · have hx' : x = ⟨t + ((⟨(x : ℕ) - t, by omega⟩ : Fin m) : ℕ), by simp only; omega⟩ := Fin.ext (by simp only; omega)
      rw [hx', hE, hT' _ (by simp only; omega), EReal.bot_sub]
      rfl
    · exact hE' x hc
  rw [sum_stretch (a := t + o) (n := n) (by omega) (fun x => E x * V x) (fun x hx => by rw [hEz x hx, zero_mul]),
    sum_stretch (a := t + o) (n := n) (by omega) E hEz]
  simp only [hEb, hsup]
  choose w hw hwe using fun k => exp_real (s k) (hs k) M
  have hsum : (∑ j, Ideal.exp (s j - (M : EReal))) = ((∑ j, w j : ℝ) : EReal) := by
    rw [coe_sum]
    exact Finset.sum_congr rfl fun j _ => hwe j
  have hpos : (0 : ℝ) < ∑ j, w j := by
    refine Finset.sum_pos' (fun j _ => hw j) ⟨i, Finset.mem_univ _, ?_⟩
    have := hwe i
    rw [hi, ← EReal.coe_sub, sub_self, Ideal.exp_coe, Real.exp_zero] at this
    have h1 : (1 : ℝ) = w i := by exact_mod_cast this
    rw [← h1]; exact one_pos
  rw [hsum, Ideal.div_coe hpos.ne', sum_mul_real _ _ (by positivity)]
  refine Finset.sum_congr rfl fun k _ => ?_
  rw [Ideal.div_coe hpos.ne', mul_right_comm]

end Cert.Soft
-- ==== Proof.Spec.lean ====
module

public import proofs.«01_k».proof.Proof.Soft
public import Idealize.ShloMosaic.Lib.Pointwise

/-! # The layer's attention on the whole arrays, read at an index -/

@[expose] public section

noncomputable section

namespace Cert.Spec

open Idealize.ShloMosaic

/-- A sequence of rows of a batch of two, over the model's width. -/
abbrev Rows : Type := FVec Ideal (⟨3, ![2, 8192, 1024]⟩ : Shape) .f32

/-- The table of relative biases. -/
abbrev Table : Type := FVec Ideal (⟨3, ![1, 16, 257]⟩ : Shape) .f32

/-- A tile's row among the sequence's. -/
def rowOf (i : Fin 8) (r : Fin 1024) : Fin 8192 := ⟨1024 * i + r, by omega⟩

/-- A window's row among the padded sequence's. -/
def winOf (i : Fin 8) (w : Fin 1536) : Fin 8704 := ⟨1024 * i + w, by omega⟩

/-- A row's logit on a key of its band, of which the first 512 keys are the eight chunks before. -/
def logit (q k : Rows) (rb : Table) (b : Fin 2) (s : Fin 8192) (col : Fin 1024) (u : Fin 576) : EReal :=
  if h : 64 * ((s : ℕ) / 64) + u < 512 then ⊥ else
    (∑ d : Fin 64, q (ix3 b s ⟨64 * ((col : ℕ) / 64) + d, by omega⟩) *
      k (ix3 b ⟨64 * ((s : ℕ) / 64) + u - 512, by omega⟩ ⟨64 * ((col : ℕ) / 64) + d, by omega⟩)) * Ideal.ofBits .f32 0x3E000000#32
    + rb (ix3 0 ⟨(col : ℕ) / 64, by omega⟩ ⟨min 256 (640 + (s : ℕ) % 64 - u), by omega⟩)

/-- The values of a band, zero before the sequence. -/
def value (v : Rows) (b : Fin 2) (s : Fin 8192) (col : Fin 1024) (u : Fin 576) : EReal :=
  if h : 64 * ((s : ℕ) / 64) + u < 512 then 0 else v (ix3 b ⟨64 * ((s : ℕ) / 64) + u - 512, by omega⟩ col)

/-- The softmax of the logits against the values. -/
def attend (q k v : Rows) (rb : Table) (b : Fin 2) (s : Fin 8192) (col : Fin 1024) : EReal :=
  ∑ u : Fin 576, Ideal.div (Ideal.exp (logit q k rb b s col u - Finset.univ.fold max ⊥ (logit q k rb b s col)))
    (∑ j : Fin 576, Ideal.exp (logit q k rb b s col j - Finset.univ.fold max ⊥ (logit q k rb b s col))) * value v b s col u

/-- The output projection. -/
def project (q k v : Rows) (rb : Table) (w : FVec Ideal (⟨3, ![1, 1024, 1024]⟩ : Shape) .f32) (b : Fin 2) (s : Fin 8192) (e : Fin 1024) : EReal :=
  ∑ c : Fin 1024, attend q k v rb b s c * w (ix3 0 c e)

end Cert.Spec
end
-- ==== Proof.Att.lean ====
module

public import proofs.«01_k».proof.Proof.Gen.KernelIdeal.Skeleton
public import proofs.«01_k».proof.Proof.Soft
public import Idealize.ShloMosaic.Lib.Pointwise

/-! # One body of the attention kernel, as a function of what it reads

The kernel's body runs 32 times over (a group of four chunks, a pair of heads). Each run is the same
function: masked logits of the four chunks against the window's keys, sixteen blocks of 32 rows of
powers of two, one product with the values and a column of ones, a quotient, and four tiles. -/

@[expose] public section

set_option maxRecDepth 16384

noncomputable section

namespace Cert.Att

open Cert.KernelIdeal Cert.KernelIdeal.Gen Idealize.ShloMosaic Idealize.ShloMosaic.TcCoe

section Generic
variable {F : FTy → Type} [FloatOps F] [Named F]

/-- A chunk's queries of the pair's first head, zeros in the lanes of the second. -/
def qlo (q : Vec F S1x64x128 .bf16) : FVec F S64x128 .bf16 :=
  select k0_pay1 (shapeCast S64x128 q shapeCasts_S1x64x128_S64x128) (broadcast S64x128 (Scalar.ofBits .bf16 0x0000#16))

/-- A chunk's queries of the pair's second head, zeros in the lanes of the first. -/
def qhi (q : Vec F S1x64x128 .bf16) : FVec F S64x128 .bf16 :=
  select k0_pay1 (broadcast S64x128 (Scalar.ofBits .bf16 0x0000#16)) (shapeCast S64x128 q shapeCasts_S1x64x128_S64x128)

/-- The logits of four chunks of both heads against a window of keys. -/
def scores (q₀ q₁ q₂ q₃ : Vec F S1x64x128 .bf16) (kw : Vec F S768x128 .bf16) : FVec F S512x768 .f32 :=
  matmul dot_S512x128_S768x128_S512x768_1_1_0_0_n_n none
    (concatenate S512x128 0 [⟨S64x128, qlo q₀⟩, ⟨S64x128, qhi q₀⟩, ⟨S64x128, qlo q₁⟩, ⟨S64x128, qhi q₁⟩, ⟨S64x128, qlo q₂⟩,
      ⟨S64x128, qhi q₂⟩, ⟨S64x128, qlo q₃⟩, ⟨S64x128, qhi q₃⟩]
      concatenates_S64x128_S64x128_S64x128_S64x128_S64x128_S64x128_S64x128_S64x128_S512x128_d0)
    (shapeCast S768x128 kw shapeCasts_S768x128_S768x128) (constant S512x768 .f32 0x00000000#32)

/-- The logits with those a predicate marks replaced by the mask. -/
def masked (p : IVec S512x768 1) (s : FVec F S512x768 .f32) : FVec F S512x768 .f32 :=
  select p (broadcast S512x768 (Named.named κ "mask" 0xFF7F0000#32)) s

/-- A block of 32 rows of a slab of the logits, with its bias. -/
def logits (s : FVec F S512x768 .f32) (r t : ℕ) (h : S512x768.Slices ![r, t] S32x640)
    (b : Vec F S1x1x32x640 .f32) : FVec F S32x640 .f32 :=
  addf (extractStridedSlice S32x640 ![r, t] s h) (shapeCast S32x640 b shapeCasts_S1x1x32x640_S32x640)

/-- Two to the power of each logit less its row's greatest. -/
def powers (l : FVec F S32x640 .f32) : FVec F S32x640 .bf16 :=
  truncf .bf16 (exp2 (subf l (broadcastTo S32x640 (shapeCast S32x1
    (multiReduction .maximumf [1] S32 l 0xFF800000#32 reduces_S32x640_S32 (.inl rfl) rfl) shapeCasts_S32_S32x1)
    broadcasts_S32x1_S32x640))) bitsLt_bf16_f32

/-- The powers at the window's left, zeros beside them. -/
def atLeft (l : FVec F S32x640 .f32) : FVec F S32x768 .bf16 :=
  concatenate S32x768 1 [⟨S32x640, powers l⟩, ⟨S32x128, k0_pay3⟩] concatenates_S32x640_S32x128_S32x768_d1

/-- The powers at the window's right, zeros beside them. -/
def atRight (l : FVec F S32x640 .f32) : FVec F S32x768 .bf16 :=
  concatenate S32x768 1 [⟨S32x128, k0_pay3⟩, ⟨S32x640, powers l⟩] concatenates_S32x128_S32x640_S32x768_d1

/-- The sixteen blocks of weights. -/
def weights (s : FVec F S512x768 .f32) (b₀ b₁ b₂ b₃ b₄ b₅ b₆ b₇ : Vec F S1x1x32x640 .f32) : FVec F S512x768 .bf16 :=
  concatenate S512x768 0 [
    ⟨S32x768, atLeft (logits s 0 0 slices_S512x768_o0_0_S32x640 b₀)⟩,
    ⟨S32x768, atLeft (logits s 32 0 slices_S512x768_o32_0_S32x640 b₁)⟩,
    ⟨S32x768, atLeft (logits s 64 0 slices_S512x768_o64_0_S32x640 b₂)⟩,
    ⟨S32x768, atLeft (logits s 96 0 slices_S512x768_o96_0_S32x640 b₃)⟩,
    ⟨S32x768, atLeft (logits s 128 0 slices_S512x768_o128_0_S32x640 b₄)⟩,
    ⟨S32x768, atLeft (logits s 160 0 slices_S512x768_o160_0_S32x640 b₅)⟩,
    ⟨S32x768, atLeft (logits s 192 0 slices_S512x768_o192_0_S32x640 b₆)⟩,
    ⟨S32x768, atLeft (logits s 224 0 slices_S512x768_o224_0_S32x640 b₇)⟩,
    ⟨S32x768, atRight (logits s 256 128 slices_S512x768_o256_128_S32x640 b₀)⟩,
    ⟨S32x768, atRight (logits s 288 128 slices_S512x768_o288_128_S32x640 b₁)⟩,
    ⟨S32x768, atRight (logits s 320 128 slices_S512x768_o320_128_S32x640 b₂)⟩,
    ⟨S32x768, atRight (logits s 352 128 slices_S512x768_o352_128_S32x640 b₃)⟩,
    ⟨S32x768, atRight (logits s 384 128 slices_S512x768_o384_128_S32x640 b₄)⟩,
    ⟨S32x768, atRight (logits s 416 128 slices_S512x768_o416_128_S32x640 b₅)⟩,
    ⟨S32x768, atRight (logits s 448 128 slices_S512x768_o448_128_S32x640 b₆)⟩,
    ⟨S32x768, atRight (logits s 480 128 slices_S512x768_o480_128_S32x640 b₇)⟩]
    concatenates_S32x768_S32x768_S32x768_S32x768_S32x768_S32x768_S32x768_S32x768_S32x768_S32x768_S32x768_S32x768_S32x768_S32x768_S32x768_S32x768_S512x768_d0

/-- The product of the weights with a window of values beside a block of ones. -/
def product (w : FVec F S512x768 .bf16) (vw : Vec F S768x128 .bf16) : FVec F S512x256 .f32 :=
  matmul dot_S512x768_S768x256_S512x256_1_0_0_1_n_n none w
    (concatenate S768x256 1 [⟨S768x128, shapeCast S768x128 vw shapeCasts_S768x128_S768x128⟩, ⟨S768x128, k0_pay2⟩]
      concatenates_S768x128_S768x128_S768x256_d1) (constant S512x256 .f32 0x00000000#32)

/-- The quotient of the weighted values by the sums of the weights. -/
def quotient (w : FVec F S512x768 .bf16) (vw : Vec F S768x128 .bf16) : FVec F S512x128 .f32 :=
  divf (extractStridedSlice S512x128 ![0, 0] (product w vw) slices_S512x256_o0_0_S512x128)
    (extractStridedSlice S512x128 ![0, 128] (product w vw) slices_S512x256_o0_128_S512x128)

/-- A chunk's tile: the first head's lanes of its first rows, the second's of its second. -/
def tile (o : FVec F S512x128 .f32) (r r' : ℕ) (h : S512x128.Slices ![r, 0] S64x128) (h' : S512x128.Slices ![r', 0] S64x128) :
    FVec F S64x128 .bf16 :=
  shapeCast S64x128 (truncf .bf16 (select k0_pay1 (extractStridedSlice S64x128 ![r, 0] o h)
    (extractStridedSlice S64x128 ![r', 0] o h')) bitsLt_bf16_f32) shapeCasts_S64x128_S64x128

end Generic

end Cert.Att
end
-- ==== Proof.AttAt.lean ====
module

public import proofs.«01_k».proof.Proof.Att
public import Idealize.ShloMosaic.Lib.WordCmp

/-! # One body of the attention kernel, read entry by entry at the extended reals -/

@[expose] public section

set_option maxRecDepth 16384

noncomputable section

namespace Cert.Att

open Cert.KernelIdeal Cert.KernelIdeal.Gen Idealize.ShloMosaic Idealize.ShloMosaic.TcCoe

theorem neg_inf : Ideal.ofBits .f32 0xFF800000#32 = (⊥ : EReal) := by
  simp [Ideal.ofBits, Ideal.ieee]

theorem qlo_at (q : Vec Ideal S1x64x128 .bf16) (a : Fin 64) (c : Fin 128) :
    qlo (F := Ideal) q (ix2 a c) = if (c : ℕ) < 64 then q (ix3 0 a c) else 0 := by
  pointwise [qlo, k0_pay1]
  word_cmp

theorem qhi_at (q : Vec Ideal S1x64x128 .bf16) (a : Fin 64) (c : Fin 128) :
    qhi (F := Ideal) q (ix2 a c) = if (c : ℕ) < 64 then 0 else q (ix3 0 a c) := by
  pointwise [qhi, k0_pay1]
  word_cmp

/-- The eight blocks of masked queries, by the head's place in the group. -/
def qat (q₀ q₁ q₂ q₃ : Vec Ideal S1x64x128 .bf16) : Fin 8 → FVec Ideal S64x128 .bf16 :=
  ![qlo q₀, qhi q₀, qlo q₁, qhi q₁, qlo q₂, qhi q₂, qlo q₃, qhi q₃]

theorem qcat_at (q₀ q₁ q₂ q₃ : Vec Ideal S1x64x128 .bf16) (n : Fin 8) (a : Fin 64) (c : Fin 128) (r : Fin 512)
    (hr : (r : ℕ) = 64 * n + a) :
    concatenate S512x128 0 [⟨S64x128, qlo (F := Ideal) q₀⟩, ⟨S64x128, qhi (F := Ideal) q₀⟩, ⟨S64x128, qlo (F := Ideal) q₁⟩, ⟨S64x128, qhi (F := Ideal) q₁⟩, ⟨S64x128, qlo (F := Ideal) q₂⟩,
      ⟨S64x128, qhi (F := Ideal) q₂⟩, ⟨S64x128, qlo (F := Ideal) q₃⟩, ⟨S64x128, qhi (F := Ideal) q₃⟩]
      concatenates_S64x128_S64x128_S64x128_S64x128_S64x128_S64x128_S64x128_S64x128_S512x128_d0 (ix2 r c) = qat q₀ q₁ q₂ q₃ n (ix2 a c) := by
  refine concatenate_ofFn_apply (α := EReal) (0 : Fin S512x128.rank) (qat q₀ q₁ q₂ q₃) _ rfl 64 rfl (ix2 r c) n ?_ (ix2 a c) ?_ ?_
  · show (r : ℕ) / 64 = n; omega
  · show (a : ℕ) = (r : ℕ) % 64; omega
  · intro b hb
    fin_cases b
    · exact absurd rfl hb
    · rfl

theorem scores_at (q₀ q₁ q₂ q₃ : Vec Ideal S1x64x128 .bf16) (kw : Vec Ideal S768x128 .bf16) (n : Fin 8) (a : Fin 64)
    (x : Fin 768) (r : Fin 512) (hr : (r : ℕ) = 64 * n + a) :
    scores (F := Ideal) q₀ q₁ q₂ q₃ kw (ix2 r x) = ∑ c : Fin 128, qat q₀ q₁ q₂ q₃ n (ix2 a c) * kw (ix2 x c) := by
  have h := qcat_at q₀ q₁ q₂ q₃ n a
  unfold scores
  generalize concatenate S512x128 0 _ _ = Q at h ⊢
  pointwise
  exact Finset.sum_congr rfl fun c _ => by rw [h c r hr]

theorem masked_at (p : IVec S512x768 1) (s : FVec Ideal S512x768 .f32) (j : S512x768.Idx) :
    masked (F := Ideal) p s j = Scalar.select (p j) (⊥ : EReal) (s j) := by
  pointwise [masked]
  rfl

theorem logits_at (s : FVec Ideal S512x768 .f32) (r t : ℕ) (h : S512x768.Slices ![r, t] S32x640)
    (b : Vec Ideal S1x1x32x640 .f32) (a : Fin 32) (u : Fin 640) (r' : Fin 512) (x : Fin 768) (hr : (r' : ℕ) = r + a) (hx : (x : ℕ) = t + u) :
    logits (F := Ideal) s r t h b (ix2 a u) = s (ix2 r' x) + b (ix4 0 0 a u) := by
  pointwise [logits]
  rw [show (⟨r + (a : ℕ), _⟩ : Fin 512) = r' from Fin.ext hr.symm, show (⟨t + (u : ℕ), _⟩ : Fin 768) = x from Fin.ext hx.symm]

theorem powers_at (l : FVec Ideal S32x640 .f32) (a : Fin 32) (u : Fin 640) :
    powers (F := Ideal) l (ix2 a u) = Ideal.exp2 (l (ix2 a u) - Finset.univ.fold max ⊥ fun w : Fin 640 => l (ix2 a w)) := by
  pointwise [powers]
  rw [neg_inf]
  rfl

theorem atLeft_at (l : FVec Ideal S32x640 .f32) (a : Fin 32) (x : Fin 768) :
    atLeft (F := Ideal) l (ix2 a x) = if h : (x : ℕ) < 640 then powers (F := Ideal) l (ix2 a ⟨x, h⟩) else 0 := by
  pointwise [atLeft, k0_pay3]

theorem atRight_at (l : FVec Ideal S32x640 .f32) (a : Fin 32) (x : Fin 768) :
    atRight (F := Ideal) l (ix2 a x) = if h : (x : ℕ) < 128 then 0 else powers (F := Ideal) l (ix2 a ⟨x - 128, by omega⟩) := by
  pointwise [atRight, k0_pay3]

theorem quotient_at (w : FVec Ideal S512x768 .bf16) (vw : Vec Ideal S768x128 .bf16) (r : Fin 512) (l : Fin 128) :
    quotient (F := Ideal) w vw (ix2 r l) =
      Ideal.div (∑ x : Fin 768, w (ix2 r x) * vw (ix2 x l)) (∑ x : Fin 768, w (ix2 r x)) := by
  pointwise [quotient, product, k0_pay2]

theorem tile_at (o : FVec Ideal S512x128 .f32) (r r' : ℕ) (h : S512x128.Slices ![r, 0] S64x128) (h' : S512x128.Slices ![r', 0] S64x128)
    (a : Fin 64) (l : Fin 128) (x x' : Fin 512) (hx : (x : ℕ) = r + a) (hx' : (x' : ℕ) = r' + a) :
    tile (F := Ideal) o r r' h h' (ix2 a l) = if (l : ℕ) < 64 then o (ix2 x l) else o (ix2 x' l) := by
  pointwise [tile, k0_pay1]
  rw [show (⟨r + (a : ℕ), _⟩ : Fin 512) = x from Fin.ext hx.symm, show (⟨r' + (a : ℕ), _⟩ : Fin 512) = x' from Fin.ext hx'.symm]
  word_cmp

/-- Where a row's slab starts in the window. -/
def off (r : ℕ) : ℕ := if r < 256 then 0 else 128

theorem off_le (r : ℕ) : off r ≤ 128 := by unfold off; split <;> omega

/-- A row's slab of logits with their biases. -/
def slab (s : FVec Ideal S512x768 .f32) (bb : Fin 8 → Vec Ideal S1x1x32x640 .f32) (r : Fin 512) (u : Fin 640) : EReal :=
  s (ix2 r ⟨off r + u, by have := off_le r; omega⟩) + bb ⟨(r : ℕ) / 32 % 8, by omega⟩ (ix4 0 0 ⟨(r : ℕ) % 32, by omega⟩ u)

/-- A row's weights over the window. -/
def wrow (s : FVec Ideal S512x768 .f32) (bb : Fin 8 → Vec Ideal S1x1x32x640 .f32) (r : Fin 512) (x : Fin 768) : EReal :=
  if h : off r ≤ (x : ℕ) ∧ (x : ℕ) < off r + 640 then
    Ideal.exp2 (slab s bb r ⟨(x : ℕ) - off r, by omega⟩ - Finset.univ.fold max ⊥ (slab s bb r))
  else 0

theorem slab_eq (s : FVec Ideal S512x768 .f32) (bb : Fin 8 → Vec Ideal S1x1x32x640 .f32) (r : Fin 512) (r₀ t : ℕ)
    (h : S512x768.Slices ![r₀, t] S32x640) (b : Vec Ideal S1x1x32x640 .f32) (a : Fin 32) (m : Fin 8)
    (hr : (r : ℕ) = r₀ + a) (h32 : (r : ℕ) / 32 % 8 = m ∧ (r : ℕ) % 32 = a) (ht : off r = t) (hb : bb m = b) (u : Fin 640) :
    logits (F := Ideal) s r₀ t h b (ix2 a u) = slab s bb r u := by
  subst ht
  rw [logits_at s r₀ _ h b a u r ⟨off r + u, by have := off_le r; omega⟩ hr rfl, slab,
    show (⟨(r : ℕ) / 32 % 8, _⟩ : Fin 8) = m from Fin.ext h32.1, hb, show (⟨(r : ℕ) % 32, _⟩ : Fin 32) = a from Fin.ext h32.2]

theorem left_row (s : FVec Ideal S512x768 .f32) (bb : Fin 8 → Vec Ideal S1x1x32x640 .f32) (r : Fin 512) (r₀ : ℕ)
    (h : S512x768.Slices ![r₀, 0] S32x640) (b : Vec Ideal S1x1x32x640 .f32) (a : Fin 32) (m : Fin 8)
    (hr : (r : ℕ) = r₀ + a) (h32 : (r : ℕ) / 32 % 8 = m ∧ (r : ℕ) % 32 = a) (ht : (r : ℕ) < 256) (hb : bb m = b) (x : Fin 768) :
    atLeft (F := Ideal) (logits s r₀ 0 h b) (ix2 a x) = wrow s bb r x := by
  have h0 : off r = 0 := if_pos ht
  have hs := slab_eq s bb r r₀ 0 h b a m hr h32 h0 hb
  rw [atLeft_at, wrow]
  by_cases hx : (x : ℕ) < 640
  · rw [dif_pos hx, dif_pos (by omega), powers_at]
    simp only [hs, h0, Nat.sub_zero]
  · rw [dif_neg hx, dif_neg (by omega)]

theorem right_row (s : FVec Ideal S512x768 .f32) (bb : Fin 8 → Vec Ideal S1x1x32x640 .f32) (r : Fin 512) (r₀ : ℕ)
    (h : S512x768.Slices ![r₀, 128] S32x640) (b : Vec Ideal S1x1x32x640 .f32) (a : Fin 32) (m : Fin 8)
    (hr : (r : ℕ) = r₀ + a) (h32 : (r : ℕ) / 32 % 8 = m ∧ (r : ℕ) % 32 = a) (ht : ¬ (r : ℕ) < 256) (hb : bb m = b) (x : Fin 768) :
    atRight (F := Ideal) (logits s r₀ 128 h b) (ix2 a x) = wrow s bb r x := by
  have h0 : off r = 128 := if_neg ht
  have hs := slab_eq s bb r r₀ 128 h b a m hr h32 h0 hb
  rw [atRight_at, wrow]
  by_cases hx : (x : ℕ) < 128
  · rw [dif_pos hx, dif_neg (by omega)]
  · rw [dif_neg hx, dif_pos (by omega), powers_at]
    simp only [hs, h0]

theorem weights_at (s : FVec Ideal S512x768 .f32) (b₀ b₁ b₂ b₃ b₄ b₅ b₆ b₇ : Vec Ideal S1x1x32x640 .f32) (r : Fin 512) (x : Fin 768) :
    weights (F := Ideal) s b₀ b₁ b₂ b₃ b₄ b₅ b₆ b₇ (ix2 r x) = wrow s ![b₀, b₁, b₂, b₃, b₄, b₅, b₆, b₇] r x := by
  obtain ⟨n, a, hr⟩ : ∃ (n : Fin 16) (a : Fin 32), (r : ℕ) = 32 * n + a :=
    ⟨⟨(r : ℕ) / 32, by omega⟩, ⟨(r : ℕ) % 32, by omega⟩, by simp only; omega⟩
  refine (concatenate_ofFn_apply (α := EReal) (0 : Fin S512x768.rank) (![
    atLeft (logits s 0 0 slices_S512x768_o0_0_S32x640 b₀), atLeft (logits s 32 0 slices_S512x768_o32_0_S32x640 b₁),
    atLeft (logits s 64 0 slices_S512x768_o64_0_S32x640 b₂), atLeft (logits s 96 0 slices_S512x768_o96_0_S32x640 b₃),
    atLeft (logits s 128 0 slices_S512x768_o128_0_S32x640 b₄), atLeft (logits s 160 0 slices_S512x768_o160_0_S32x640 b₅),
    atLeft (logits s 192 0 slices_S512x768_o192_0_S32x640 b₆), atLeft (logits s 224 0 slices_S512x768_o224_0_S32x640 b₇),
    atRight (logits s 256 128 slices_S512x768_o256_128_S32x640 b₀), atRight (logits s 288 128 slices_S512x768_o288_128_S32x640 b₁),
    atRight (logits s 320 128 slices_S512x768_o320_128_S32x640 b₂), atRight (logits s 352 128 slices_S512x768_o352_128_S32x640 b₃),
    atRight (logits s 384 128 slices_S512x768_o384_128_S32x640 b₄), atRight (logits s 416 128 slices_S512x768_o416_128_S32x640 b₅),
    atRight (logits s 448 128 slices_S512x768_o448_128_S32x640 b₆), atRight (logits s 480 128 slices_S512x768_o480_128_S32x640 b₇)] :
      Fin 16 → FVec Ideal S32x768 .bf16) _ rfl 32 rfl (ix2 r x) n ?_ (ix2 a x) ?_ ?_).trans ?_
  · show (r : ℕ) / 32 = n; omega
  · show (a : ℕ) = (r : ℕ) % 32; omega
  · intro b hb
    fin_cases b
    · exact absurd rfl hb
    · rfl
  · fin_cases n <;> simp only at hr
    · exact left_row s _ r 0 _ b₀ a 0 hr (by omega) (by omega) rfl x
    · exact left_row s _ r 32 _ b₁ a 1 hr (by omega) (by omega) rfl x
    · exact left_row s _ r 64 _ b₂ a 2 hr (by omega) (by omega) rfl x
    · exact left_row s _ r 96 _ b₃ a 3 hr (by omega) (by omega) rfl x
    · exact left_row s _ r 128 _ b₄ a 4 hr (by omega) (by omega) rfl x
    · exact left_row s _ r 160 _ b₅ a 5 hr (by omega) (by omega) rfl x
    · exact left_row s _ r 192 _ b₆ a 6 hr (by omega) (by omega) rfl x
    · exact left_row s _ r 224 _ b₇ a 7 hr (by omega) (by omega) rfl x
    · exact right_row s _ r 256 _ b₀ a 0 hr (by omega) (by omega) rfl x
    · exact right_row s _ r 288 _ b₁ a 1 hr (by omega) (by omega) rfl x
    · exact right_row s _ r 320 _ b₂ a 2 hr (by omega) (by omega) rfl x
    · exact right_row s _ r 352 _ b₃ a 3 hr (by omega) (by omega) rfl x
    · exact right_row s _ r 384 _ b₄ a 4 hr (by omega) (by omega) rfl x
    · exact right_row s _ r 416 _ b₅ a 5 hr (by omega) (by omega) rfl x
    · exact right_row s _ r 448 _ b₆ a 6 hr (by omega) (by omega) rfl x
    · exact right_row s _ r 480 _ b₇ a 7 hr (by omega) (by omega) rfl x

end Cert.Att
end
-- ==== Proof.Host.lean ====
module

public import proofs.«01_k».proof.Proof.Spec
public import proofs.«01_k».proof.Proof.AttAt
public import proofs.«01_k».proof.Proof.Gen.KernelIdeal.Value
public import Idealize.ShloMosaic.Lib.Pipeline.ValueKit
public import Idealize.ShloMosaic.Lib.Claim
public import Idealize.ShloMosaic.Lib.WordCmp

/-! # What the host hands the attention kernel -/

@[expose] public section

set_option maxRecDepth 16384

noncomputable section

namespace Cert.Att

open Cert.KernelIdeal Cert.KernelIdeal.Gen Idealize.ShloMosaic Idealize.ShloMosaic.TcCoe

/-- The host's logarithm's base: one over the logarithm of two. -/
def base : FVec Ideal S_ .f32 := Host.divf (constant S_ .f32 0x3F800000#32) (Host.log (constant S_ .f32 0x40000000#32))

theorem base_at : base ix0 = Soft.lg := by
  show Ideal.div (Ideal.ofBits .f32 0x3F800000#32) (Ideal.log (Ideal.ofBits .f32 0x40000000#32)) = _
  have h1 : Ideal.ofBits .f32 0x3F800000#32 = ((1 : ℝ) : EReal) := by
    simp [Ideal.ofBits, Ideal.ieee]; rw [← EReal.coe_mul]; norm_num
  have h2 : Ideal.ofBits .f32 0x40000000#32 = ((2 : ℝ) : EReal) := by
    simp [Ideal.ofBits, Ideal.ieee]; rw [← EReal.coe_mul]; norm_num
  have h3 : Ideal.log ((2 : ℝ) : EReal) = ((Real.log 2 : ℝ) : EReal) := by
    show (if (2 : ℝ) ≤ 0 then ⊥ else ((Real.log 2 : ℝ) : EReal)) = _
    rw [if_neg (by norm_num)]
  rw [h1, h2, h3, Ideal.div_coe (Real.log_pos one_lt_two).ne', ← EReal.coe_mul, one_mul]
  rfl

/-- The queries, scaled. -/
def scaled (q : Spec.Rows) : FVec Ideal S2x8192x1024 .bf16 :=
  truncf .bf16 (mulf q (broadcastInDim S2x8192x1024 ![] bcast_S_S2x8192x1024 (mulf base (constant S_ .f32 0x3E000000#32)))) bitsLt_bf16_f32

theorem scaled_at (q : Spec.Rows) (b : Fin 2) (s : Fin 8192) (e : Fin 1024) :
    scaled q (ix3 b s e) = q (ix3 b s e) * (Soft.lg * Ideal.ofBits .f32 0x3E000000#32) := by
  pointwise [scaled]
  rw [base_at]

/-- Keys (or values) with 512 rows of zeros before them. -/
def padded (x : Spec.Rows) : FVec Ideal S2x8704x1024 .bf16 :=
  truncf .bf16 (pad S2x8704x1024 ![0, 512, 0] ![0, 0, 0] ![0, 0, 0] x (sitofp .f32 (constantI S_ 32 0#32)) pads_S2x8192x1024_S2x8704x1024_000_51200_000 h_S_) bitsLt_bf16_f32

theorem padded_at (x : Spec.Rows) (b : Fin 2) (r : Fin 8704) (e : Fin 1024) :
    padded x (ix3 b r e) = if h : (r : ℕ) < 512 then 0 else x (ix3 b ⟨r - 512, by omega⟩ e) := by
  pointwise [padded]
  by_cases h : (r : ℕ) < 512
  · rw [dif_pos h, dif_neg (by omega)]
    show ((_ : ℝ) : EReal) = 0
    simp
  · rw [dif_neg h, dif_pos (by omega)]
    blk_ext

/-- The position of a table's column in its band. -/
def place (o : BitVec 32) : IVec S1x640 32 :=
  subi (broadcastInDim S1x640 ![1] bcast_S640_S1x640_1 (iotaInDim S640 32 0)) (broadcastInDim S1x640 ![] bcast_S_S1x640 (constantI S_ 32 o))

/-- The bias table's column for a row and a table column. -/
def far (o : BitVec 32) : IVec S64x640 32 :=
  addi (minsi (broadcastInDim S64x640 ![] bcast_S_S64x640 (id (constantI S_ 32 128#32))) (maxsi (broadcastInDim S64x640 ![] bcast_S_S64x640 (id (constantI S_ 32 4294967168#32)))
    (subi (broadcastInDim S64x640 ![0, 1] bcast_S64x1_S64x640_0_1 (addi (broadcastInDim S64x1 ![] bcast_S_S64x1 (constantI S_ 32 512#32)) (broadcastInDim S64x1 ![0] bcast_S64_S64x1_0 (iotaInDim S64 32 0)))) (broadcastInDim S64x640 ![0, 1] bcast_S1x640_S64x640_0_1 (place o)))))
    (broadcastInDim S64x640 ![] bcast_S_S64x640 (constantI S_ 32 128#32))

/-- One layout of the bias table. -/
def layout (o : BitVec 32) (rb : Spec.Table) : FVec Ideal S16x64x640 .f32 :=
  select (broadcastInDim S16x64x640 ![1, 2] bcast_S1x640_S16x64x640_1_2 (andi (cmpi .sge (place o) (broadcastInDim S1x640 ![] bcast_S_S1x640 (constantI S_ 32 0#32))) (cmpi .slt (place o) (broadcastInDim S1x640 ![] bcast_S_S1x640 (constantI S_ 32 576#32)))))
    (mulf (Host.gather gather_S16x257_S64x640x1_S16x64x640_0_1_n_n_1_2_161 (shapeCast S16x257 rb shapeCasts_S1x16x257_S16x257) (broadcastInDim S64x640x1 ![0, 1] bcast_S64x640_S64x640x1_0_1 (select (cmpi .slt (far o) (broadcastInDim S64x640 ![] bcast_S_S64x640 (constantI S_ 32 0#32))) (addi (far o) (broadcastInDim S64x640 ![] bcast_S_S64x640 (constantI S_ 32 257#32))) (far o)))) (broadcastInDim S16x64x640 ![] bcast_S_S16x64x640 base))
    (broadcastInDim S16x64x640 ![] bcast_S_S16x64x640 (id (constant S_ .f32 0xFF800000#32)))

/-- Both layouts, heads paired. -/
def layouts (rb : Spec.Table) : FVec Ideal S2x8x128x640 .f32 :=
  shapeCast S2x8x128x640 (concatenate S2x16x64x640 0 [⟨S1x16x64x640, broadcastInDim S1x16x64x640 ![1, 2, 3] bcast_S16x64x640_S1x16x64x640_1_2_3 (layout 0#32 rb)⟩, ⟨S1x16x64x640, broadcastInDim S1x16x64x640 ![1, 2, 3] bcast_S16x64x640_S1x16x64x640_1_2_3 (layout 64#32 rb)⟩] concatenates_S1x16x64x640_S1x16x64x640_S2x16x64x640_d0) shapeCasts_S2x16x64x640_S2x8x128x640

/-- A table's entry its index names. -/
theorem gather_table (x : S16x257.Idx → EReal) (I : IVec S64x640x1 32) (h : Fin 16) (a : Fin 64) (u : Fin 640)
    (v : Fin 257) (hv : I (ix3 a u 0) = BitVec.ofNat 32 v) :
    Host.gather gather_S16x257_S64x640x1_S16x64x640_0_1_n_n_1_2_161 x I (ix3 h a u) = x (ix2 h v) := by
  have e : gather_S16x257_S64x640x1_S16x64x640_0_1_n_n_1_2_161.siIdx (ix3 h a u) ⟨0, by decide⟩ = ix3 a u 0 := by
    funext d; refine Fin.ext ?_
    match d with
    | ⟨0, _⟩ => rfl
    | ⟨1, _⟩ => rfl
    | ⟨2, _⟩ => rfl
  have e' : min (I (ix3 a u 0)).toInt.toNat 256 = v := by
    rw [hv, WordCmp.toInt_ofNat_of_lt (by omega)]
    omega
  unfold Host.gather
  refine congrArg x (funext fun d => Fin.ext ?_)
  match d with
  | ⟨0, _⟩ => exact Nat.zero_add _
  | ⟨1, _⟩ => show _ = (v : ℕ); rw [← e', ← e]; rfl

theorem inside (o : ℕ) (ho : o = 0 ∨ o = 64) : ∀ u : Fin 640,
    IntOp.andi (IntOp.cmpi .sge (IntOp.subi (BitVec.ofNat 32 u) (BitVec.ofNat 32 o)) 0#32) (IntOp.cmpi .slt (IntOp.subi (BitVec.ofNat 32 u) (BitVec.ofNat 32 o)) 576#32) =
      if o ≤ (u : ℕ) ∧ (u : ℕ) < o + 576 then 1#1 else 0#1 := by
  rcases ho with rfl | rfl <;> decide +kernel

theorem clip_word : ∀ z : Fin 704, IntOp.addi (IntOp.minsi (128#32) (IntOp.maxsi (4294967168#32) (IntOp.subi (BitVec.ofNat 32 z) 128#32))) 128#32 =
    BitVec.ofNat 32 (min 256 (z : ℕ)) := by decide +kernel

theorem far_at (o : ℕ) (ho : o ≤ 64) (a : Fin 64) (u : Fin 640) (hu : o ≤ (u : ℕ)) :
    far (BitVec.ofNat 32 o) (ix2 a u) = BitVec.ofNat 32 (min 256 (640 + a - (u - o))) := by
  pointwise [far, place]
  rw [← clip_word ⟨640 + a - (u - o), by omega⟩]
  congr 3
  apply BitVec.eq_of_toNat_eq
  simp only [IntOp.subi, IntOp.addi, BitVec.toNat_sub, BitVec.toNat_add, BitVec.toNat_ofNat]
  omega

theorem layout_at (o : ℕ) (ho : o = 0 ∨ o = 64) (rb : Spec.Table) (h : Fin 16) (a : Fin 64) (u : Fin 640) :
    layout (BitVec.ofNat 32 o) rb (ix3 h a u) = if o ≤ (u : ℕ) ∧ (u : ℕ) < o + 576 then
      rb (ix3 0 h ⟨min 256 (640 + a - (u - o)), by omega⟩) * Soft.lg else ⊥ := by
  have e : layout (BitVec.ofNat 32 o) rb (ix3 h a u) = Scalar.select (IntOp.andi (IntOp.cmpi .sge (IntOp.subi (BitVec.ofNat 32 u) (BitVec.ofNat 32 o)) 0#32) (IntOp.cmpi .slt (IntOp.subi (BitVec.ofNat 32 u) (BitVec.ofNat 32 o)) 576#32))
      (Host.gather gather_S16x257_S64x640x1_S16x64x640_0_1_n_n_1_2_161 (shapeCast S16x257 rb shapeCasts_S1x16x257_S16x257) (broadcastInDim S64x640x1 ![0, 1] bcast_S64x640_S64x640x1_0_1 (select (cmpi .slt (far (BitVec.ofNat 32 o)) (broadcastInDim S64x640 ![] bcast_S_S64x640 (constantI S_ 32 0#32))) (addi (far (BitVec.ofNat 32 o)) (broadcastInDim S64x640 ![] bcast_S_S64x640 (constantI S_ 32 257#32))) (far (BitVec.ofNat 32 o)))) (ix3 h a u) * base ix0)
      (Ideal.ofBits .f32 0xFF800000#32) := by
    simp only [layout, id]
    pointwise [place]
  rw [e, inside o ho u, base_at, neg_inf]
  by_cases hu : o ≤ (u : ℕ) ∧ (u : ℕ) < o + 576
  · rw [if_pos hu, if_pos hu]
    show _ * _ = _
    rw [gather_table _ _ h a u ⟨min 256 (640 + a - (u - o)), by omega⟩]
    · pointwise
    · pointwise
      rw [far_at o (by omega) a u hu.1]
      have hz : IntOp.cmpi .slt (BitVec.ofNat 32 (min 256 (640 + (a : ℕ) - (u - o)))) 0#32 = 0#1 := by
        word_cmp
      rw [hz]; rfl
  · rw [if_neg hu, if_neg hu]; rfl

theorem layouts_at (rb : Spec.Table) (p : Fin 2) (g : Fin 8) (r : Fin 128) (u : Fin 640) :
    layouts rb (ix4 p g r u) = if 64 * (p : ℕ) ≤ (u : ℕ) ∧ (u : ℕ) < 64 * (p : ℕ) + 576 then
      rb (ix3 0 ⟨2 * g + r / 64, by omega⟩ ⟨min 256 (640 + r % 64 - (u - 64 * (p : ℕ))), by omega⟩) * Soft.lg else ⊥ := by
  have e0 := layout_at 0 (Or.inl rfl) rb
  have e1 := layout_at 64 (Or.inr rfl) rb
  have hg : (⟨(g : ℕ) * 2 + (r : ℕ) / 64, by omega⟩ : Fin 16) = ⟨2 * g + r / 64, by omega⟩ := Fin.ext (by show (g : ℕ) * 2 + r / 64 = 2 * g + r / 64; omega)
  pointwise [layouts]
  by_cases hp : (p : ℕ) < 1
  · obtain rfl : p = 0 := Fin.ext (by show (p : ℕ) = 0; omega)
    rw [dif_pos hp, e0]
    simp only [hg]; rfl
  · obtain rfl : p = 1 := Fin.ext (by show (p : ℕ) = 1; omega)
    rw [dif_neg hp, e1]
    simp only [hg]; rfl

variable (m : (ℓ : Loc nD τ sig) → Buf (Elt Ideal) ℓ) (c : Dev nD)

theorem read_q : V m c main_v5 = scaled (m ((c : Thread nD τ).loc main_arg1)) := by
  entry_read; rfl
theorem read_k : V m c main_v7 = padded (m ((c : Thread nD τ).loc main_arg2)) := by
  entry_read; rfl
theorem read_v : V m c main_v9 = padded (m ((c : Thread nD τ).loc main_arg3)) := by
  entry_read; rfl
set_option maxHeartbeats 1600000 in
/-- The two layouts as the host computes them. -/
theorem read_layouts : V m c main_v39 = layout 0#32 (m ((c : Thread nD τ).loc main_arg4)) ∧
    V m c main_v69 = layout 64#32 (m ((c : Thread nD τ).loc main_arg4)) := by
  constructor <;> (
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_results_simp
  simp only [StableHlo.TRef.ofBuf_toBuf, layout, far, place, base]
  rfl)

/-- The host's last line joins the two layouts. -/
theorem last_line (W : Valuation τ sig (Elt Ideal)) :
    StableHlo.after hostOps0_12 W main_v73 = shapeCast S2x8x128x640 (concatenate S2x16x64x640 0 [⟨S1x16x64x640, broadcastInDim S1x16x64x640 ![1, 2, 3] bcast_S16x64x640_S1x16x64x640_1_2_3 (W main_v39 : FVec Ideal S16x64x640 .f32)⟩, ⟨S1x16x64x640, broadcastInDim S1x16x64x640 ![1, 2, 3] bcast_S16x64x640_S1x16x64x640_1_2_3 (W main_v69 : FVec Ideal S16x64x640 .f32)⟩] concatenates_S1x16x64x640_S1x16x64x640_S2x16x64x640_d0) shapeCasts_S2x16x64x640_S2x8x128x640 := by
  after_results
  rfl

theorem last_first (W : Valuation τ sig (Elt Ideal)) : StableHlo.after hostOps0_12 W main_v39 = W main_v39 := by
  after_results
theorem last_second (W : Valuation τ sig (Elt Ideal)) : StableHlo.after hostOps0_12 W main_v69 = W main_v69 := by
  after_results

theorem read_bias : V m c main_v73 = layouts (m ((c : Thread nD τ).loc main_arg4)) := by
  obtain ⟨W, hW⟩ : ∃ W : Valuation τ sig (Elt Ideal), ∀ b : Ref sig .tc, V m c b = StableHlo.after hostOps0_12 W b := by
    refine ⟨StableHlo.after [hostOps0, hostOps0_1, hostOps0_2, hostOps0_3, hostOps0_4, hostOps0_5, hostOps0_6, hostOps0_7, hostOps0_8, hostOps0_9, hostOps0_10, hostOps0_11].flatten fun b => m (c, b), fun b => ?_⟩
    rw [← StableHlo.after_append]
    rfl
  have h := read_layouts m c
  rw [hW, hW, last_first, last_second] at h
  rw [hW, last_line, h.1, h.2]
  rfl

end Cert.Att
end
-- ==== Proof.AttBody.lean ====
module

public import proofs.«01_k».proof.Proof.AttAt

/-! # What a body stores, as a function of the staged blocks

`G` is the attention of one tile of 1024 rows read at a row and a column: the row's logits over the
640 keys of its slab, its weights over the 768 keys of its group's window, and the quotient. A tile
of a body is `G` on its rectangle. -/

@[expose] public section

set_option maxRecDepth 16384

noncomputable section

namespace Cert.Att

open Cert.KernelIdeal Cert.KernelIdeal.Gen Idealize.ShloMosaic Idealize.ShloMosaic.TcCoe

/-- Where the slab of a row of the tile starts in its group's window. -/
def offT (r : ℕ) : ℕ := if r / 64 % 4 < 2 then 0 else 128

theorem offT_le (r : ℕ) : offT r ≤ 128 := by unfold offT; split <;> omega

/-- How many keys of the group's window lie before the sequence. -/
def before (first : Bool) (r : ℕ) : ℕ := if first then 512 - 256 * (r / 256) else 0

/-- The logits of a row over its slab. -/
def gT (first : Bool) (X1 : Vec Ideal S1x1024x1024 .bf16) (X2 : Vec Ideal S1x1536x1024 .bf16) (X4 : Vec Ideal S2x8x128x640 .f32)
    (r col : Fin 1024) (u : Fin 640) : EReal :=
  (if offT r + u < before first r then ⊥ else
    ∑ d : Fin 64, (show EReal from X1 (ix3 0 r ⟨64 * ((col : ℕ) / 64) + d, by omega⟩)) *
      X2 (ix3 0 ⟨256 * ((r : ℕ) / 256) + (offT r + u), by have := offT_le r; omega⟩ ⟨64 * ((col : ℕ) / 64) + d, by omega⟩))
    + X4 (ix4 ⟨(r : ℕ) / 64 % 2, by omega⟩ ⟨(col : ℕ) / 128, by omega⟩ ⟨64 * ((col : ℕ) / 64 % 2) + (r : ℕ) % 64, by omega⟩ u)

/-- The weights of a row over its group's window. -/
def gE (first : Bool) (X1 : Vec Ideal S1x1024x1024 .bf16) (X2 : Vec Ideal S1x1536x1024 .bf16) (X4 : Vec Ideal S2x8x128x640 .f32)
    (r col : Fin 1024) (x : Fin 768) : EReal :=
  if h : offT r ≤ (x : ℕ) ∧ (x : ℕ) < offT r + 640 then
    Ideal.exp2 (gT first X1 X2 X4 r col ⟨(x : ℕ) - offT r, by omega⟩ - Finset.univ.fold max ⊥ (gT first X1 X2 X4 r col))
  else 0

/-- The attention of a tile, at a row and a column. -/
def G (first : Bool) (X1 : Vec Ideal S1x1024x1024 .bf16) (X2 : Vec Ideal S1x1536x1024 .bf16) (X3 : Vec Ideal S1x1536x1024 .bf16)
    (X4 : Vec Ideal S2x8x128x640 .f32) (r col : Fin 1024) : EReal :=
  Ideal.div (∑ x : Fin 768, gE first X1 X2 X4 r col x * X3 (ix3 0 ⟨256 * ((r : ℕ) / 256) + x, by omega⟩ col))
    (∑ x : Fin 768, gE first X1 X2 X4 r col x)

/-- A product over the pair's 128 lanes with the other head's lanes zero is one over the head's 64. -/
theorem half_sum (f : Fin 128 → EReal) (hh : ℕ) (hhh : hh < 2)
    (hf : ∀ c : Fin 128, ¬ (64 * hh ≤ (c : ℕ) ∧ (c : ℕ) < 64 * hh + 64) → f c = 0) :
    ∑ c, f c = ∑ d : Fin 64, f ⟨64 * hh + d, by omega⟩ :=
  Soft.sum_stretch (by omega) f hf

theorem qat_at (q₀ q₁ q₂ q₃ : Vec Ideal S1x64x128 .bf16) (j : Fin 4) (hh : Fin 2) (a : Fin 64) (c : Fin 128) :
    qat q₀ q₁ q₂ q₃ ⟨2 * j + hh, by omega⟩ (ix2 a c) =
      if 64 * (hh : ℕ) ≤ (c : ℕ) ∧ (c : ℕ) < 64 * hh + 64 then (![q₀, q₁, q₂, q₃] j) (ix3 0 a c) else 0 := by
  have lo : ∀ q : Vec Ideal S1x64x128 .bf16, qlo (F := Ideal) q (ix2 a c) =
      if 64 * ((0 : Fin 2) : ℕ) ≤ (c : ℕ) ∧ (c : ℕ) < 64 * ((0 : Fin 2) : ℕ) + 64 then q (ix3 0 a c) else 0 := fun q => by
    rw [qlo_at]; exact if_congr (by simp) rfl rfl
  have hi : ∀ q : Vec Ideal S1x64x128 .bf16, qhi (F := Ideal) q (ix2 a c) =
      if 64 * ((1 : Fin 2) : ℕ) ≤ (c : ℕ) ∧ (c : ℕ) < 64 * ((1 : Fin 2) : ℕ) + 64 then q (ix3 0 a c) else 0 := fun q => by
    rw [qhi_at]
    by_cases h : (c : ℕ) < 64
    · rw [if_pos h, if_neg (by simp only [Fin.val_one]; omega)]
    · rw [if_neg h, if_pos (by simp only [Fin.val_one]; omega)]
  fin_cases j <;> fin_cases hh
  · exact lo q₀
  · exact hi q₀
  · exact lo q₁
  · exact hi q₁
  · exact lo q₂
  · exact hi q₂
  · exact lo q₃
  · exact hi q₃

/-- A body's tile is `G` on its rectangle. -/
theorem body_at (first : Bool) (X1 : Vec Ideal S1x1024x1024 .bf16) (X2 : Vec Ideal S1x1536x1024 .bf16) (X3 : Vec Ideal S1x1536x1024 .bf16)
    (X4 : Vec Ideal S2x8x128x640 .f32) (g : Fin 4) (p : Fin 8)
    (q₀ q₁ q₂ q₃ : Vec Ideal S1x64x128 .bf16) (kw vw : Vec Ideal S768x128 .bf16) (b₀ b₁ b₂ b₃ b₄ b₅ b₆ b₇ : Vec Ideal S1x1x32x640 .f32)
    (s : FVec Ideal S512x768 .f32)
    (hq : ∀ (j : Fin 4) (a : Fin 64) (c : Fin 128), (![q₀, q₁, q₂, q₃] j) (ix3 0 a c) =
      X1 (ix3 0 ⟨256 * g + 64 * j + a, by omega⟩ ⟨128 * p + c, by omega⟩))
    (hk : ∀ (x : Fin 768) (c : Fin 128), kw (ix2 x c) = X2 (ix3 0 ⟨256 * g + x, by omega⟩ ⟨128 * p + c, by omega⟩))
    (hv : ∀ (x : Fin 768) (c : Fin 128), vw (ix2 x c) = X3 (ix3 0 ⟨256 * g + x, by omega⟩ ⟨128 * p + c, by omega⟩))
    (hb : ∀ (m : Fin 8) (a : Fin 32) (u : Fin 640), (![b₀, b₁, b₂, b₃, b₄, b₅, b₆, b₇] m) (ix4 0 0 a u) =
      X4 (ix4 ⟨(m : ℕ) / 4, by omega⟩ p ⟨32 * ((m : ℕ) % 4) + a, by omega⟩ u))
    (hs : ∀ (r : Fin 512) (x : Fin 768), s (ix2 r x) = if (x : ℕ) < before first (256 * g) then (⊥ : EReal) else scores (F := Ideal) q₀ q₁ q₂ q₃ kw (ix2 r x))
    (j : Fin 4) (r r' : ℕ) (h : S512x128.Slices ![r, 0] S64x128) (h' : S512x128.Slices ![r', 0] S64x128)
    (hr : r = 128 * j) (hr' : r' = 128 * j + 64) (a : Fin 64) (l : Fin 128) :
    tile (F := Ideal) (quotient (weights s b₀ b₁ b₂ b₃ b₄ b₅ b₆ b₇) vw) r r' h h' (ix2 a l) =
      G first X1 X2 X3 X4 ⟨256 * g + 64 * j + a, by omega⟩ ⟨128 * p + l, by omega⟩ := by
  obtain ⟨hh, d, hl⟩ : ∃ (hh : Fin 2) (d : Fin 64), (l : ℕ) = 64 * hh + d :=
    ⟨⟨(l : ℕ) / 64, by omega⟩, ⟨(l : ℕ) % 64, by omega⟩, by simp only; omega⟩
  set R : Fin 512 := ⟨64 * (2 * j + hh) + a, by omega⟩ with hR
  have hRv : (R : ℕ) = 64 * (2 * j + hh) + a := rfl
  set row : Fin 1024 := ⟨256 * g + 64 * j + a, by omega⟩ with hrow
  have hrowv : (row : ℕ) = 256 * g + 64 * j + a := rfl
  set col : Fin 1024 := ⟨128 * p + l, by omega⟩ with hcol
  have hcolv : (col : ℕ) = 128 * p + l := rfl
  have e : tile (F := Ideal) (quotient (weights s b₀ b₁ b₂ b₃ b₄ b₅ b₆ b₇) vw) r r' h h' (ix2 a l) =
      quotient (weights s b₀ b₁ b₂ b₃ b₄ b₅ b₆ b₇) vw (ix2 R l) := by
    rw [tile_at _ r r' h h' a l ⟨r + a, by omega⟩ ⟨r' + a, by omega⟩ rfl rfl]
    by_cases hc : (l : ℕ) < 64
    · rw [if_pos hc]; exact congrArg (fun z => quotient _ vw (ix2 z l)) (Fin.ext (by simp only [hRv]; omega))
    · rw [if_neg hc]; exact congrArg (fun z => quotient _ vw (ix2 z l)) (Fin.ext (by simp only [hRv]; omega))
  have ho : off R = offT row := by
    unfold off offT
    exact if_congr (by rw [hRv, hrowv]; omega) rfl rfl
  have hbe : before first (256 * g) = before first row := by
    unfold before
    exact if_congr Iff.rfl (by rw [hrowv]; omega) rfl
  have hT : slab s ![b₀, b₁, b₂, b₃, b₄, b₅, b₆, b₇] R = gT first X1 X2 X4 row col := by
    funext u
    have := offT_le row
    rw [slab, gT, hs, hb]
    refine congrArg₂ (· + ·) ?_ (congrArg X4 ?_)
    · rw [← hbe]
      refine if_congr (by simp only [ho]) rfl ?_
      rw [scores_at q₀ q₁ q₂ q₃ kw ⟨2 * j + hh, by omega⟩ a _ R rfl, half_sum _ hh hh.isLt]
      · refine Finset.sum_congr rfl fun d' _ => ?_
        rw [qat_at, if_pos (by simp only; omega), hq, hk]
        refine congrArg₂ (· * ·) (congrArg X1 ?_) (congrArg X2 ?_)
        · exact (ix3_inj ..).2 ⟨rfl, rfl, Fin.ext (by simp only [hcolv]; omega)⟩
        · exact (ix3_inj ..).2 ⟨rfl, Fin.ext (by simp only [ho, hrowv]; omega), Fin.ext (by simp only [hcolv]; omega)⟩
      · intro c hc
        rw [qat_at, if_neg hc, zero_mul]
    · exact (ix4_inj ..).2 ⟨Fin.ext (by simp only [hRv, hrowv]; omega), Fin.ext (by simp only [hcolv]; omega),
        Fin.ext (by simp only [hRv, hrowv, hcolv]; omega), rfl⟩
  have hW : ∀ x, wrow s ![b₀, b₁, b₂, b₃, b₄, b₅, b₆, b₇] R x = gE first X1 X2 X4 row col x := by
    intro x
    rw [wrow, gE, hT]
    by_cases hx : offT row ≤ (x : ℕ) ∧ (x : ℕ) < offT row + 640
    · rw [dif_pos hx, dif_pos (by rw [ho]; exact hx)]; simp only [ho]
    · rw [dif_neg hx, dif_neg (by rw [ho]; exact hx)]
  rw [e, quotient_at, G]
  simp only [weights_at, hW]
  refine congrArg (fun z => Ideal.div z _) (Finset.sum_congr rfl fun x _ => ?_)
  rw [hv]
  refine congrArg (fun z => gE first X1 X2 X4 row col x * z) (congrArg X3 ?_)
  exact (ix3_inj ..).2 ⟨rfl, Fin.ext (by simp only [hrowv]; omega), rfl⟩

end Cert.Att
end
-- ==== Proof.Tile.lean ====
module

public import proofs.«01_k».proof.Proof.Host
public import proofs.«01_k».proof.Proof.AttBody

/-! # A tile of the kernel is the layer's attention -/

@[expose] public section

set_option maxRecDepth 16384

noncomputable section

namespace Cert.Att

open Cert.KernelIdeal Cert.KernelIdeal.Gen Idealize.ShloMosaic Idealize.ShloMosaic.TcCoe

section
/-- One eighth, the scale of the logits. -/
theorem eighth : Ideal.ofBits .f32 0x3E000000#32 = ((1 / 8 : ℝ) : EReal) := by
  simp [Ideal.ofBits, Ideal.ieee]; rw [← EReal.coe_mul]; norm_num

/-- Scaling queries and biases by the base scales the logit. -/
theorem scaled_logit {n : ℕ} (q k : Fin n → ℝ) (b : ℝ) :
    (∑ d, ((q d : EReal) * (Soft.lg * Ideal.ofBits .f32 0x3E000000#32)) * (k d : EReal)) + (b : EReal) * Soft.lg =
      Soft.lg * ((∑ d, (q d : EReal) * (k d : EReal)) * Ideal.ofBits .f32 0x3E000000#32 + (b : EReal)) := by
  rw [eighth, show Soft.lg = ((1 / Real.log 2 : ℝ) : EReal) from rfl]
  simp only [← EReal.coe_mul, ← Soft.coe_sum, ← EReal.coe_add]
  congr 1
  rw [mul_add, Finset.sum_mul, Finset.mul_sum]
  congr 1
  · exact Finset.sum_congr rfl fun d _ => by ring
  · ring

variable {q k v : Spec.Rows} {rb : Spec.Table}
  (hq : ∀ i, ∃ r : ℝ, q i = (r : EReal)) (hk : ∀ i, ∃ r : ℝ, k i = (r : EReal)) (hr : ∀ i, ∃ r : ℝ, rb i = (r : EReal))

include hq hk hr in
/-- A logit is the start's or a real. -/
theorem logit_real (b : Fin 2) (s : Fin 8192) (col : Fin 1024) (u : Fin 576) (h : ¬ 64 * ((s : ℕ) / 64) + (u : ℕ) < 512) :
    ∃ r : ℝ, Spec.logit q k rb b s col u = (r : EReal) := by
  choose q' hq using hq
  choose k' hk using hk
  choose r' hr using hr
  unfold Spec.logit
  rw [dif_neg h, eighth, hr]
  simp only [hq, hk, ← EReal.coe_mul, ← Soft.coe_sum, ← EReal.coe_add]
  exact ⟨_, rfl⟩

include hq hk hr in
theorem logit_top (b : Fin 2) (s : Fin 8192) (col : Fin 1024) (u : Fin 576) : Spec.logit q k rb b s col u ≠ ⊤ := by
  by_cases h : 64 * ((s : ℕ) / 64) + (u : ℕ) < 512
  · unfold Spec.logit; rw [dif_pos h]; exact bot_ne_top
  · obtain ⟨r, hr⟩ := logit_real hq hk hr b s col u h
    rw [hr]; exact EReal.coe_ne_top r

variable (b : Fin 2) (i : Fin 8)
  (X1 : Vec Ideal S1x1024x1024 .bf16) (X2 : Vec Ideal S1x1536x1024 .bf16) (X3 : Vec Ideal S1x1536x1024 .bf16) (X4 : Vec Ideal S2x8x128x640 .f32)
  (h1 : ∀ r e : Fin 1024, X1 (ix3 0 r e) = scaled q (ix3 b ⟨1024 * i + r, by omega⟩ e))
  (h2 : ∀ (w : Fin 1536) (e : Fin 1024), X2 (ix3 0 w e) = padded k (ix3 b ⟨1024 * i + w, by omega⟩ e))
  (h3 : ∀ (w : Fin 1536) (e : Fin 1024), X3 (ix3 0 w e) = padded v (ix3 b ⟨1024 * i + w, by omega⟩ e))
  (h4 : ∀ (p : Fin 2) (g : Fin 8) (r : Fin 128) (u : Fin 640), X4 (ix4 p g r u) = layouts rb (ix4 p g r u))

include hq hk hr h1 h2 h4 in
/-- The kernel's logits within a row's band. -/
theorem gT_band (r col : Fin 1024) (u : Fin 576) :
    gT (decide ((i : ℕ) = 0)) X1 X2 X4 r col ⟨64 * ((r : ℕ) / 64 % 2) + u, by omega⟩ =
      Soft.lg * Spec.logit q k rb b ⟨1024 * i + r, by omega⟩ col u := by
  have hoff : offT r + 64 * ((r : ℕ) / 64 % 2) = 64 * ((r : ℕ) / 64 % 4) := by unfold offT; split <;> omega
  have hle := offT_le r
  have hs : 64 * ((1024 * (i : ℕ) + r) / 64) + (u : ℕ) = 1024 * i + (256 * ((r : ℕ) / 256) + (offT r + (64 * ((r : ℕ) / 64 % 2) + u))) := by
    omega
  have hb : offT r + (64 * ((r : ℕ) / 64 % 2) + u) < before (decide ((i : ℕ) = 0)) r ↔ 64 * ((1024 * (i : ℕ) + r) / 64) + (u : ℕ) < 512 := by
    rw [hs]
    unfold before
    by_cases h0 : (i : ℕ) = 0
    · simp only [h0, decide_true, if_true]; omega
    · simp only [h0, decide_false, Bool.false_eq_true, if_false]; omega
  have hrb : X4 (ix4 ⟨(r : ℕ) / 64 % 2, by omega⟩ ⟨(col : ℕ) / 128, by omega⟩ ⟨64 * ((col : ℕ) / 64 % 2) + (r : ℕ) % 64, by omega⟩
      (⟨64 * ((r : ℕ) / 64 % 2) + u, by omega⟩ : Fin 640)) =
        rb (ix3 0 ⟨(col : ℕ) / 64, by omega⟩ ⟨min 256 (640 + (1024 * (i : ℕ) + r) % 64 - u), by omega⟩) * Soft.lg := by
    rw [h4, layouts_at, if_pos (by constructor <;> (simp only; omega))]
    refine congrArg (fun x : EReal => x * Soft.lg) (congrArg rb (congrArg₂ (ix3 0) (Fin.ext ?_) (Fin.ext ?_)))
    · show 2 * ((col : ℕ) / 128) + (64 * ((col : ℕ) / 64 % 2) + (r : ℕ) % 64) / 64 = (col : ℕ) / 64
      omega
    · show min 256 (640 + (64 * ((col : ℕ) / 64 % 2) + (r : ℕ) % 64) % 64 - (64 * ((r : ℕ) / 64 % 2) + u - 64 * ((r : ℕ) / 64 % 2))) = min 256 (640 + (1024 * (i : ℕ) + r) % 64 - u)
      omega
  unfold gT
  rw [hrb]
  unfold Spec.logit
  by_cases h : 64 * ((1024 * (i : ℕ) + r) / 64) + (u : ℕ) < 512
  · rw [if_pos (hb.mpr h), dif_pos h, EReal.bot_add]
    exact (EReal.mul_bot_of_pos (EReal.coe_pos.mpr Soft.lg_pos)).symm
  · rw [if_neg (fun x => h (hb.mp x)), dif_neg h]
    choose q' hq using hq
    choose k' hk using hk
    choose r' hr using hr
    have hX : ∀ d : Fin 64, X2 (ix3 0 ⟨256 * ((r : ℕ) / 256) + (offT r + (64 * ((r : ℕ) / 64 % 2) + u)), by omega⟩ ⟨64 * ((col : ℕ) / 64) + d, by omega⟩) =
        k (ix3 b ⟨64 * ((1024 * (i : ℕ) + r) / 64) + u - 512, by omega⟩ ⟨64 * ((col : ℕ) / 64) + d, by omega⟩) := fun d => by
      rw [h2, padded_at, dif_neg (by simp only; omega)]
      exact congrArg k (congrArg₂ (ix3 b) (Fin.ext (by simp only; omega)) rfl)
    have hY : ∀ d : Fin 64, X1 (ix3 0 r ⟨64 * ((col : ℕ) / 64) + d, by omega⟩) =
        q (ix3 b ⟨1024 * (i : ℕ) + r, by omega⟩ ⟨64 * ((col : ℕ) / 64) + d, by omega⟩) * (Soft.lg * Ideal.ofBits .f32 0x3E000000#32) := fun d => by
      rw [h1, scaled_at]
    refine Eq.trans (congrArg₂ (fun x y : EReal => x + y * Soft.lg) (Finset.sum_congr rfl fun d _ =>
      congrArg₂ (fun x y : EReal => x * y) ((hY d).trans (congrArg (fun x : EReal => x * _) (hq _))) ((hX d).trans (hk _))) (hr _)) ?_
    rw [scaled_logit (fun d => q' (ix3 b ⟨1024 * (i : ℕ) + r, by omega⟩ ⟨64 * ((col : ℕ) / 64) + d, by omega⟩))]
    simp only [← hq, ← hk, ← hr]

include h4 in
/-- The kernel's logits outside a row's band. -/
theorem gT_out (first : Bool) (r col : Fin 1024) (u : Fin 640) (hu : ¬ (64 * ((r : ℕ) / 64 % 2) ≤ (u : ℕ) ∧ (u : ℕ) < 64 * ((r : ℕ) / 64 % 2) + 576)) :
    gT first X1 X2 X4 r col u = ⊥ := by
  unfold gT
  rw [h4, layouts_at, if_neg hu]
  exact EReal.add_bot _

include hq hk hr h1 h2 h3 h4 in
/-- A tile's entry is the attention's. -/
theorem tile_attends (r col : Fin 1024) :
    G (decide ((i : ℕ) = 0)) X1 X2 X3 X4 r col = Spec.attend q k v rb b ⟨1024 * i + r, by omega⟩ col := by
  have hle := offT_le r
  have hoff : offT r + 64 * ((r : ℕ) / 64 % 2) = 64 * ((r : ℕ) / 64 % 4) := by unfold offT; split <;> omega
  have hlast : ¬ 64 * (((⟨1024 * i + r, by omega⟩ : Fin 8192) : ℕ) / 64) + ((⟨512, by omega⟩ : Fin 576) : ℕ) < 512 := by simp only; omega
  unfold G
  refine (Soft.core (Spec.logit q k rb b ⟨1024 * i + r, by omega⟩ col) (logit_top hq hk hr b _ col) ⟨512, by omega⟩ ?_
    (64 * ((r : ℕ) / 64 % 2)) (offT r) (by omega) (by omega) (gT (decide ((i : ℕ) = 0)) X1 X2 X4 r col)
    (gE (decide ((i : ℕ) = 0)) X1 X2 X4 r col) (fun x => X3 (ix3 0 ⟨256 * ((r : ℕ) / 256) + x, by omega⟩ col))
    (gT_band hq hk hr b i X1 X2 X4 h1 h2 h4 r col) (gT_out X1 X2 X4 h4 _ r col) ?_ ?_).trans ?_
  · obtain ⟨x, hx⟩ := logit_real hq hk hr b ⟨1024 * i + r, by omega⟩ col ⟨512, by omega⟩ hlast
    rw [hx]; exact EReal.coe_ne_bot x
  · intro u
    unfold gE
    rw [dif_pos (by constructor <;> (simp only; omega))]
    refine congrArg Ideal.exp2 (congrArg (fun x : EReal => x - _) (congrArg _ (Fin.ext ?_)))
    simp only; omega
  · intro x hx
    unfold gE
    rw [dif_neg hx]
  · unfold Spec.attend
    refine Finset.sum_congr rfl fun u _ => congrArg₂ (fun x y : EReal => x * y) rfl ?_
    unfold Spec.value
    refine (h3 _ _).trans ((padded_at v _ _ _).trans ?_)
    have e : 1024 * (i : ℕ) + (256 * ((r : ℕ) / 256) + (offT r + 64 * ((r : ℕ) / 64 % 2) + u)) = 64 * ((1024 * (i : ℕ) + r) / 64) + u := by omega
    by_cases h : 64 * ((1024 * (i : ℕ) + r) / 64) + (u : ℕ) < 512
    · rw [dif_pos h, dif_pos (by simp only; omega)]
    · rw [dif_neg h, dif_neg (by simp only; omega)]
      exact congrArg v (congrArg₂ (ix3 b) (Fin.ext (by simp only; omega)) rfl)

end

/-- A tile of the kernel is the attention of its rows. -/
theorem tile_is {q k v : Spec.Rows} {rb : Spec.Table}
    (hq : ∀ i, ∃ r : ℝ, q i = (r : EReal)) (hk : ∀ i, ∃ r : ℝ, k i = (r : EReal)) (hr : ∀ i, ∃ r : ℝ, rb i = (r : EReal))
    (b : Fin 2) (i : Fin 8) (X1 : Vec Ideal S1x1024x1024 .bf16) (X2 : Vec Ideal S1x1536x1024 .bf16) (X3 : Vec Ideal S1x1536x1024 .bf16)
    (X4 : Vec Ideal S2x8x128x640 .f32)
    (h1 : ∀ r e : Fin 1024, X1 (ix3 0 r e) = scaled q (ix3 b (Spec.rowOf i r) e))
    (h2 : ∀ (w : Fin 1536) (e : Fin 1024), X2 (ix3 0 w e) = padded k (ix3 b (Spec.winOf i w) e))
    (h3 : ∀ (w : Fin 1536) (e : Fin 1024), X3 (ix3 0 w e) = padded v (ix3 b (Spec.winOf i w) e))
    (h4 : ∀ (p : Fin 2) (g : Fin 8) (r : Fin 128) (u : Fin 640), X4 (ix4 p g r u) = layouts rb (ix4 p g r u)) (r col : Fin 1024) :
    G (decide ((i : ℕ) = 0)) X1 X2 X3 X4 r col = Spec.attend q k v rb b (Spec.rowOf i r) col :=
  tile_attends hq hk hr b i X1 X2 X3 X4 h1 h2 h3 h4 r col

end Cert.Att
end
-- ==== Proof.Blocks.lean ====
module

public import proofs.«01_k».proof.Proof.Host

/-! # The kernel's blocks at a grid point -/

@[expose] public section

set_option maxRecDepth 16384

noncomputable section

namespace Cert.Att

open Cert.KernelIdeal Cert.KernelIdeal.Gen Idealize.ShloMosaic Idealize.ShloMosaic.TcCoe
open Idealize.ShloMosaic.Pipeline (Dat)

theorem idx : ∀ t : Fin cfg0.N,
    win0_0.index t = ![(grid0.coords t 0).val, (grid0.coords t 1).val, 0] ∧ win0_1.index t = ![(grid0.coords t 0).val, (grid0.coords t 1).val, 0] ∧
    win0_2.index t = ![(grid0.coords t 0).val, 1024 * (grid0.coords t 1).val, 0] ∧ win0_3.index t = ![(grid0.coords t 0).val, 1024 * (grid0.coords t 1).val, 0] ∧
    win0_4.index t = ![0, 0, 0, 0] ∧ win0_5.index t = ![0, 0] ∧ win0_6.index t = ![1, (grid0.coords t 0).val, 0, 0] ∧
    win0_7.index t = ![1, 0, 0] ∧ win0_8.index t = ![(grid0.coords t 0).val, (grid0.coords t 1).val, 0] :=
  (by decide +kernel : ∀ t : Fin grid0.N, _)

/-- The batch and the tile of a grid point. -/
theorem point_lt (t : Fin cfg0.N) : (grid0.coords t 0).val < 2 ∧ (grid0.coords t 1).val < 8 := ⟨(grid0.coords t 0).isLt, (grid0.coords t 1).isLt⟩

def batch (t : Fin cfg0.N) : Fin 2 := ⟨(grid0.coords t 0).val, (point_lt t).1⟩
def tile_of (t : Fin cfg0.N) : Fin 8 := ⟨(grid0.coords t 1).val, (point_lt t).2⟩

variable (m : (ℓ : Loc nD τ sig) → Buf (Elt Ideal) ℓ) (c : Dev nD)

/-- The projection's weights as the kernel takes them. -/
def projW (w : FVec Ideal S1x1024x1024 .f32) : FVec Ideal S1024x1024 .bf16 :=
  truncf .bf16 (shapeCast S1024x1024 w shapeCasts_S1x1024x1024_S1024x1024) bitsLt_bf16_f32
theorem projW_at (w : FVec Ideal S1x1024x1024 .f32) (a b : Fin 1024) : projW w (ix2 a b) = w (ix3 0 a b) := by
  pointwise [projW]
/-- The modulation's rows as the kernel takes them. -/
def six (x : FVec Ideal S2x2x6144 .f32) : FVec Ideal S2x2x6x1024 .f32 := shapeCast S2x2x6x1024 x shapeCasts_S2x2x6144_S2x2x6x1024
theorem six_at (x : FVec Ideal S2x2x6144 .f32) (l b : Fin 2) (e : Fin 1024) : six x (ix4 l b 2 e) = x (ix3 l b ⟨2048 + e, by omega⟩) := by
  pointwise [six]
theorem read_w : V m c main_v75 = projW (m ((c : Thread nD τ).loc main_arg5)) := by
  entry_read; rfl
theorem read_mod : V m c main_v76 = six (m ((c : Thread nD τ).loc main_arg6)) := by
  entry_read; rfl

section
variable (t : Fin cfg0.N)
theorem place_0 (X : FVec Ideal S2x8192x1024 .f32) (r e : Fin 1024) : X (((cfg0.win 0).blk t).view.emb (ix3 0 r e)) = X (ix3 (batch t) (Spec.rowOf (tile_of t) r) e) := by
  blk_ext [idx t, batch, tile_of, Spec.rowOf]
theorem place_1 (X : FVec Ideal S2x8192x1024 .bf16) (r e : Fin 1024) : X (((cfg0.win 1).blk t).view.emb (ix3 0 r e)) = X (ix3 (batch t) (Spec.rowOf (tile_of t) r) e) := by
  blk_ext [idx t, batch, tile_of, Spec.rowOf]
theorem from_2 : ∀ t : Fin cfg0.N, cc0_transform_2 (grid0.coords t) = ![(grid0.coords t 0).val, 1024 * (grid0.coords t 1).val, 0] ∧
    cc0_transform_3 (grid0.coords t) = ![(grid0.coords t 0).val, 1024 * (grid0.coords t 1).val, 0] :=
  (by decide +kernel : ∀ t : Fin grid0.N, _)
theorem spot (o : Fin 3 → ℕ) (a : Fin 2) (b : Fin 8) (w : Fin 1536) (e : Fin 1024) (i : S2x8704x1024.Idx)
    (ho : o = ![(a : ℕ), 1024 * (b : ℕ), 0]) (hi : ∀ d : Fin 3, (i d : ℕ) = o d + 1 * ((ix3 (0 : Fin 1) w e : S1x1536x1024.Idx) d : ℕ)) :
    i = ix3 a (Spec.winOf b w) e := by
  subst ho
  refine funext fun d => Fin.ext ((hi d).trans ?_)
  match d with
  | ⟨0, _⟩ => show (a : ℕ) + 1 * 0 = a; omega
  | ⟨1, _⟩ => show 1024 * (b : ℕ) + 1 * (w : ℕ) = 1024 * b + w; omega
  | ⟨2, _⟩ => show 0 + 1 * (e : ℕ) = e; omega
theorem place_2 (X : FVec Ideal S2x8704x1024 .bf16) (w : Fin 1536) (e : Fin 1024) : X (((cfg0.win 2).blk t).view.emb (ix3 0 w e)) = X (ix3 (batch t) (Spec.winOf (tile_of t) w) e) :=
  congrArg X (spot (cc0_transform_2 (grid0.coords t)) (batch t) (tile_of t) w e _ (from_2 t).1 fun d => rfl)
theorem place_3 (X : FVec Ideal S2x8704x1024 .bf16) (w : Fin 1536) (e : Fin 1024) : X (((cfg0.win 3).blk t).view.emb (ix3 0 w e)) = X (ix3 (batch t) (Spec.winOf (tile_of t) w) e) :=
  congrArg X (spot (cc0_transform_3 (grid0.coords t)) (batch t) (tile_of t) w e _ (from_2 t).2 fun d => rfl)
theorem place_4 (X : FVec Ideal S2x8x128x640 .f32) (p : Fin 2) (g : Fin 8) (r : Fin 128) (u : Fin 640) : X (((cfg0.win 4).blk t).view.emb (ix4 p g r u)) = X (ix4 p g r u) := by
  blk_ext [idx t]
theorem place_5 (X : FVec Ideal S1024x1024 .bf16) (a b : Fin 1024) : X (((cfg0.win 5).blk t).view.emb (ix2 a b)) = X (ix2 a b) := by
  blk_ext [idx t]
theorem place_6 (X : FVec Ideal S2x2x6x1024 .f32) (x : Fin 6) (e : Fin 1024) : X (((cfg0.win 6).blk t).view.emb (ix4 0 0 x e)) = X (ix4 1 (batch t) x e) := by
  blk_ext [idx t, batch]
theorem place_7 (X : FVec Ideal S2x4x1024 .f32) (x : Fin 4) (e : Fin 1024) : X (((cfg0.win 7).blk t).view.emb (ix3 0 x e)) = X (ix3 1 x e) := by
  blk_ext [idx t]

theorem in_x (r e : Fin 1024) : iblk m c 0 t (ix3 0 r e) = m ((c : Thread nD τ).loc main_arg0) (ix3 (batch t) (Spec.rowOf (tile_of t) r) e) := by
  blk_simp [iblk]
  exact place_0 t _ r e
theorem in_q (r e : Fin 1024) : iblk m c 1 t (ix3 0 r e) = scaled (m ((c : Thread nD τ).loc main_arg1)) (ix3 (batch t) (Spec.rowOf (tile_of t) r) e) := by
  blk_simp [iblk]
  exact (place_1 t _ r e).trans (congrFun (read_q m c) _)
theorem in_k (w : Fin 1536) (e : Fin 1024) : iblk m c 2 t (ix3 0 w e) = padded (m ((c : Thread nD τ).loc main_arg2)) (ix3 (batch t) (Spec.winOf (tile_of t) w) e) := by
  blk_simp [iblk]
  exact (place_2 t _ w e).trans (congrFun (read_k m c) _)
theorem in_v (w : Fin 1536) (e : Fin 1024) : iblk m c 3 t (ix3 0 w e) = padded (m ((c : Thread nD τ).loc main_arg3)) (ix3 (batch t) (Spec.winOf (tile_of t) w) e) := by
  blk_simp [iblk]
  exact (place_3 t _ w e).trans (congrFun (read_v m c) _)
theorem in_bias (p : Fin 2) (g : Fin 8) (r : Fin 128) (u : Fin 640) : iblk m c 4 t (ix4 p g r u) = layouts (m ((c : Thread nD τ).loc main_arg4)) (ix4 p g r u) := by
  blk_simp [iblk]
  exact (place_4 t _ p g r u).trans (congrFun (read_bias m c) _)
theorem in_w (a b : Fin 1024) : iblk m c 5 t (ix2 a b) = projW (m ((c : Thread nD τ).loc main_arg5)) (ix2 a b) := by
  blk_simp [iblk]
  exact (place_5 t _ a b).trans (congrFun (read_w m c) _)
theorem in_mod (x : Fin 6) (e : Fin 1024) : iblk m c 6 t (ix4 0 0 x e) = six (m ((c : Thread nD τ).loc main_arg6)) (ix4 1 (batch t) x e) := by
  blk_simp [iblk]
  exact (place_6 t _ x e).trans (congrFun (read_mod m c) _)
theorem in_norm (x : Fin 4) (e : Fin 1024) : iblk m c 7 t (ix3 0 x e) = m ((c : Thread nD τ).loc main_arg7) (ix3 1 x e) := by
  blk_simp [iblk]
  exact place_7 t _ x e
end
end Cert.Att
end
-- ==== Proof.RefGather.lean ====
module

public import proofs.«01_k».proof.Proof.Gen.ReferenceIdeal.Run
public import Idealize.ShloMosaic.Lib.Pipeline.ValueKit
public import Idealize.ShloMosaic.Lib.Pointwise
public import Idealize.ShloMosaic.Lib.WordCmp

/-! # The reference's two gathers, read at an index -/

@[expose] public section

set_option maxRecDepth 16384

noncomputable section

namespace Cert.Ref

open Cert.ReferenceIdeal Cert.ReferenceIdeal.Gen Idealize.ShloMosaic Idealize.ShloMosaic.TcCoe

/-- A band's chunk is the padded chunk its index names. -/
theorem gather_chunk (x : S2x136x64x16x64.Idx → EReal) (I : IVec S128x9x1 32) (b : Fin 2) (n : Fin 128) (j : Fin 9)
    (r : Fin 64) (h : Fin 16) (d : Fin 64) :
    Host.gather gather_S2x136x64x16x64_S128x9x1_S2x128x9x64x16x64_0345_1_n_n_1_2_21641664 x I (ix6 b n j r h d) =
      x (ix5 b ⟨min (I (ix3 n j 0)).toInt.toNat 135, by omega⟩ r h d) := by
  have e : gather_S2x136x64x16x64_S128x9x1_S2x128x9x64x16x64_0345_1_n_n_1_2_21641664.siIdx (ix6 b n j r h d) ⟨0, by decide⟩ = ix3 n j 0 := by
    funext a; refine Fin.ext ?_
    match a with
    | ⟨0, _⟩ => rfl
    | ⟨1, _⟩ => rfl
    | ⟨2, _⟩ => rfl
  unfold Host.gather
  refine congrArg x (funext fun a => Fin.ext ?_)
  match a with
  | ⟨0, _⟩ => exact Nat.zero_add _
  | ⟨1, _⟩ => show _ = min (I (ix3 n j 0)).toInt.toNat 135; rw [← e]; rfl
  | ⟨2, _⟩ => exact Nat.zero_add _
  | ⟨3, _⟩ => exact Nat.zero_add _
  | ⟨4, _⟩ => exact Nat.zero_add _

/-- A bias is the table's entry its index names. -/
theorem gather_bias (x : S16x257.Idx → EReal) (I : IVec S64x576x1 32) (h : Fin 16) (i : Fin 64) (k : Fin 576) :
    Host.gather gather_S16x257_S64x576x1_S16x64x576_0_1_n_n_1_2_161 x I (ix3 h i k) =
      x (ix2 h ⟨min (I (ix3 i k 0)).toInt.toNat 256, by omega⟩) := by
  have e : gather_S16x257_S64x576x1_S16x64x576_0_1_n_n_1_2_161.siIdx (ix3 h i k) ⟨0, by decide⟩ = ix3 i k 0 := by
    funext a; refine Fin.ext ?_
    match a with
    | ⟨0, _⟩ => rfl
    | ⟨1, _⟩ => rfl
    | ⟨2, _⟩ => rfl
  unfold Host.gather
  refine congrArg x (funext fun a => Fin.ext ?_)
  match a with
  | ⟨0, _⟩ => exact Nat.zero_add _
  | ⟨1, _⟩ => show _ = min (I (ix3 i k 0)).toInt.toNat 256; rw [← e]; rfl

/-- A band's chunk at an index that lies in the padded chunks. -/
theorem gather_chunk_at (x : S2x136x64x16x64.Idx → EReal) (I : IVec S128x9x1 32) (b : Fin 2) (n : Fin 128) (j : Fin 9)
    (r : Fin 64) (h : Fin 16) (d : Fin 64) (v : Fin 136) (hv : I (ix3 n j 0) = BitVec.ofNat 32 v) :
    Host.gather gather_S2x136x64x16x64_S128x9x1_S2x128x9x64x16x64_0345_1_n_n_1_2_21641664 x I (ix6 b n j r h d) =
      x (ix5 b v r h d) := by
  rw [gather_chunk]
  refine congrArg x (congrArg (fun z => ix5 b z r h d) (Fin.ext ?_))
  show min (I (ix3 n j 0)).toInt.toNat 135 = v
  rw [hv, WordCmp.toInt_ofNat_of_lt (by omega)]
  omega

/-- A bias at an index that lies in the table. -/
theorem gather_bias_at (x : S16x257.Idx → EReal) (I : IVec S64x576x1 32) (h : Fin 16) (a : Fin 64) (k : Fin 576)
    (v : Fin 257) (hv : I (ix3 a k 0) = BitVec.ofNat 32 v) :
    Host.gather gather_S16x257_S64x576x1_S16x64x576_0_1_n_n_1_2_161 x I (ix3 h a k) = x (ix2 h v) := by
  rw [gather_bias]
  refine congrArg x (congrArg (fun z => ix2 h z) (Fin.ext ?_))
  show min (I (ix3 a k 0)).toInt.toNat 256 = v
  rw [hv, WordCmp.toInt_ofNat_of_lt (by omega)]
  omega

end Cert.Ref
end
-- ==== Proof.RefIndex.lean ====
module

public import proofs.«01_k».proof.Proof.RefGather

/-! # The reference's index arrays, and its bands of keys and values -/

@[expose] public section

set_option maxRecDepth 16384

noncomputable section

namespace Cert.Ref

open Cert.ReferenceIdeal Cert.ReferenceIdeal.Gen Cert.ReferenceIdeal.Value Idealize.ShloMosaic Idealize.ShloMosaic.TcCoe

variable (V0 : Valuation τ sig (Elt Ideal))

/-- The chunks a band gathers, as start indices. -/
def chunkStart : IVec S128x9x1 32 :=
  broadcastInDim S128x9x1 ![0, 1] bcast_S128x9_S128x9x1_0_1 (select (cmpi .slt (res_main_v17 V0) (broadcastInDim S128x9 ![] bcast_S_S128x9 (constantI S_ 32 0#32))) (addi (res_main_v17 V0) (broadcastInDim S128x9 ![] bcast_S_S128x9 (constantI S_ 32 136#32))) (res_main_v17 V0))

theorem add_words (n j : ℕ) : IntOp.addi (BitVec.ofNat 32 n) (BitVec.ofNat 32 j) = BitVec.ofNat 32 (n + j) :=
  (BitVec.ofNat_add n j).symm

/-- A wrapped index that is not negative is the index. -/
theorem wrap_word (z c : ℕ) (hz : z < 1000) :
    Scalar.select (IntOp.cmpi .slt (BitVec.ofNat 32 z) 0#32) (IntOp.addi (BitVec.ofNat 32 z) (BitVec.ofNat 32 c)) (BitVec.ofNat 32 z) =
      BitVec.ofNat 32 z := by
  have h : IntOp.cmpi .slt (BitVec.ofNat 32 z) 0#32 = 0#1 := by
    word_cmp
  rw [h]; rfl

theorem chunkStart_at (n : Fin 128) (j : Fin 9) : chunkStart V0 (ix3 n j 0) = BitVec.ofNat 32 ((n : ℕ) + j) := by
  unfold chunkStart
  pointwise [res_main_v17]
  rw [add_words]
  exact wrap_word _ 136 (by omega)

theorem Ideal_zero : (FloatOps.sitofp (F := Ideal) FTy.f32 (0#32 : BitVec 32) : EReal) = 0 := by
  show ((_ : ℝ) : EReal) = 0
  simp

/-- The bands of keys (or of values). -/
def band (t : FVec Ideal S2x8192x1024 .f32) : FVec Ideal S2x128x576x16x64 .f32 :=
  shapeCast _ (Host.gather gather_S2x136x64x16x64_S128x9x1_S2x128x9x64x16x64_0345_1_n_n_1_2_21641664 (pad S2x136x64x16x64 ![0, 8, 0, 0, 0] ![0, 0, 0, 0, 0] ![0, 0, 0, 0, 0] (shapeCast _ (shapeCast _ t shapeCasts_S2x8192x1024_S2x8192x16x64) shapeCasts_S2x8192x16x64_S2x128x64x16x64) (sitofp .f32 (constantI S_ 32 0#32)) pads_S2x128x64x16x64_S2x136x64x16x64_000_800_000_000_000 h_S_) (chunkStart V0)) shapeCasts_S2x128x9x64x16x64_S2x128x576x16x64

theorem band_at (t : FVec Ideal S2x8192x1024 .f32) (b : Fin 2) (n : Fin 128) (k : Fin 576) (h : Fin 16) (d : Fin 64) :
    band V0 t (ix5 b n k h d) = if hk : 64 * (n : ℕ) + k < 512 then (0 : EReal) else
      t (ix3 b ⟨64 * n + k - 512, by omega⟩ ⟨64 * h + d, by omega⟩) := by
  have e : band V0 t (ix5 b n k h d) = Host.gather gather_S2x136x64x16x64_S128x9x1_S2x128x9x64x16x64_0345_1_n_n_1_2_21641664 (pad S2x136x64x16x64 ![0, 8, 0, 0, 0] ![0, 0, 0, 0, 0] ![0, 0, 0, 0, 0] (shapeCast _ (shapeCast _ t shapeCasts_S2x8192x1024_S2x8192x16x64) shapeCasts_S2x8192x16x64_S2x128x64x16x64) (sitofp .f32 (constantI S_ 32 0#32)) pads_S2x128x64x16x64_S2x136x64x16x64_000_800_000_000_000 h_S_) (chunkStart V0)
      (ix6 b n ⟨k / 64, by omega⟩ ⟨k % 64, by omega⟩ h d) := by
    pointwise [band]
  rw [e, gather_chunk_at _ _ _ _ _ _ _ _ ⟨n + k / 64, by omega⟩ (chunkStart_at V0 n _)]
  pointwise
  by_cases hk : 64 * (n : ℕ) + k < 512
  · rw [dif_pos hk, dif_neg (by omega)]
    exact Ideal_zero
  · rw [dif_neg hk, dif_pos (by omega)]
    blk_ext

/-- A key's chunk in its band, as a word: the quotient by 64 rounded down. -/
def fdiv (x : BitVec 32) : BitVec 32 :=
  Scalar.select
    (IntOp.andi
      (IntOp.cmpi CmpIPredicate.ne (if x = 0 then (0 : BitVec 32) else if x.msb = true then -1 else 1)
        (if 64#32 = 0 then (0 : BitVec 32) else if BitVec.msb (64#32) = true then -1 else 1))
      (IntOp.cmpi CmpIPredicate.ne (IntOp.remsi ArithUnit.host x 64#32) 0#32))
    (IntOp.subi (IntOp.divsi ArithUnit.host x 64#32) 1#32) (IntOp.divsi ArithUnit.host x 64#32)

/-- A key's place in its chunk, as a word: the remainder by 64 that is not negative. -/
def fmod (x : BitVec 32) : BitVec 32 :=
  let c : BitVec 32 := Scalar.select (IntOp.cmpi CmpIPredicate.eq (64#32) 0#32) (1#32) (64#32)
  Scalar.select
    (IntOp.andi
      (IntOp.cmpi CmpIPredicate.ne (IntOp.cmpi CmpIPredicate.slt (IntOp.remsi ArithUnit.host x c) 0#32) (IntOp.cmpi CmpIPredicate.slt c 0#32))
      (IntOp.cmpi CmpIPredicate.ne (IntOp.remsi ArithUnit.host x c) 0#32))
    (IntOp.addi (IntOp.remsi ArithUnit.host x c) c) (IntOp.remsi ArithUnit.host x c)

theorem fdiv_at : ∀ k : Fin 576, fdiv (BitVec.ofNat 32 k) = BitVec.ofNat 32 ((k : ℕ) / 64) := by decide +kernel

theorem fmod_at : ∀ k : Fin 576, fmod (BitVec.ofNat 32 k) = BitVec.ofNat 32 ((k : ℕ) % 64) := by decide +kernel

theorem clip_at : ∀ z : Fin 704, IntOp.addi (IntOp.minsi (128#32) (IntOp.maxsi (4294967168#32) (IntOp.subi (BitVec.ofNat 32 z) 128#32))) 128#32 =
    BitVec.ofNat 32 (min 256 (z : ℕ)) := by decide +kernel

/-- The distance of a key from a row, as a word. -/
theorem distance (q r a : ℕ) (hq : q ≤ 8) (hr : r < 64) (ha : a < 64) :
    IntOp.subi (IntOp.addi (IntOp.muli (IntOp.subi (8#32) (BitVec.ofNat 32 q)) 64#32) (BitVec.ofNat 32 a)) (BitVec.ofNat 32 r) =
      IntOp.subi (BitVec.ofNat 32 (640 + a - (64 * q + r))) 128#32 := by
  apply BitVec.eq_of_toNat_eq
  simp only [IntOp.subi, IntOp.addi, IntOp.muli, BitVec.toNat_sub, BitVec.toNat_add, BitVec.toNat_mul, BitVec.toNat_ofNat]
  omega

theorem rel_word (a : Fin 64) (k : Fin 576) :
    IntOp.addi (IntOp.minsi (128#32) (IntOp.maxsi (4294967168#32) (IntOp.subi (IntOp.addi (IntOp.muli (IntOp.subi (8#32)
      (fdiv (BitVec.ofNat 32 k))) 64#32) (BitVec.ofNat 32 a)) (fmod (BitVec.ofNat 32 k))))) 128#32 =
      BitVec.ofNat 32 (min 256 (640 + a - k)) := by
  rw [fdiv_at, fmod_at, distance _ _ _ (by omega) (by omega) (by omega), Nat.div_add_mod]
  exact clip_at ⟨640 + a - k, by omega⟩

theorem relStart_at (a : Fin 64) (k : Fin 576) : res_main_v65 V0 (ix2 a k) = BitVec.ofNat 32 (min 256 (640 + a - k)) := by
  pointwise [res_main_v65, res_main_v51, res_main_call2_v0, res_main_call2_v2, res_main_call3_v0, res_main_call3_v2, res_main_call3_v4]
  exact rel_word a k

end Cert.Ref
end
-- ==== Proof.RefAt.lean ====
module

public import proofs.«01_k».proof.Proof.RefIndex
public import proofs.«01_k».proof.Proof.Spec

/-! # The reference's result, read at an index -/

@[expose] public section

set_option maxRecDepth 16384

noncomputable section

namespace Cert.Ref

open Cert.ReferenceIdeal Cert.ReferenceIdeal.Gen Cert.ReferenceIdeal.Value Idealize.ShloMosaic Idealize.ShloMosaic.TcCoe

variable (V0 : Valuation τ sig (Elt Ideal))

theorem neg_inf : Ideal.ofBits .f32 0xFF800000#32 = (⊥ : EReal) := by
  simp [Ideal.ofBits, Ideal.ieee]

/-- The biases a band's keys take. -/
def biases : FVec Ideal S16x64x576 .f32 :=
  Host.gather gather_S16x257_S64x576x1_S16x64x576_0_1_n_n_1_2_161 (shapeCast _ (V0 (Proc.devRef .tc main_arg4)) shapeCasts_S1x16x257_S16x257) (broadcastInDim S64x576x1 ![0, 1] bcast_S64x576_S64x576x1_0_1 (select (cmpi .slt (res_main_v65 V0) (broadcastInDim S64x576 ![] bcast_S_S64x576 (constantI S_ 32 0#32))) (addi (res_main_v65 V0) (broadcastInDim S64x576 ![] bcast_S_S64x576 (constantI S_ 32 257#32))) (res_main_v65 V0)))

theorem biases_at (h : Fin 16) (a : Fin 64) (k : Fin 576) :
    biases V0 (ix3 h a k) = (V0 (Proc.devRef .tc main_arg4) : Spec.Table) (ix3 0 h ⟨min 256 (640 + a - k), by omega⟩) := by
  unfold biases
  rw [gather_bias_at _ _ _ _ _ ⟨min 256 (640 + a - k), by omega⟩]
  · pointwise
  · pointwise
    rw [relStart_at]
    exact wrap_word _ 257 (by omega)

theorem valid_word (n : Fin 128) (k : Fin 576) :
    IntOp.cmpi .sge (IntOp.subi (IntOp.addi (BitVec.ofNat 32 n) (fdiv (BitVec.ofNat 32 k))) 8#32) 0#32 =
      if 64 * (n : ℕ) + k < 512 then 0#1 else 1#1 := by
  rw [fdiv_at, add_words]
  have h : ∀ z : Fin 137, IntOp.cmpi .sge (IntOp.subi (BitVec.ofNat 32 z) 8#32) 0#32 = if (z : ℕ) < 8 then 0#1 else 1#1 := by decide
  rw [h ⟨n + k / 64, by omega⟩]
  split <;> split <;> first | rfl | (exfalso; simp only at *; omega)

/-- A band's validity, as the words of its chunk numbers say it. -/
def valid : IVec S128x576 1 :=
  cmpi .sge (subi (addi (broadcastInDim S128x576 ![0, 1] bcast_S128x1_S128x576_0_1 (broadcastInDim S128x1 ![0] bcast_S128_S128x1_0 (iotaInDim S128 32 0))) (broadcastInDim S128x576 ![0, 1] bcast_S1x576_S128x576_0_1 (select (andi (cmpi .ne (signi (res_main_v80 V0)) (broadcastInDim S1x576 ![] bcast_S_S1x576 (signi (res_main_call5_v0 V0)))) (cmpi .ne (Host.remsi (res_main_v80 V0) (broadcastInDim S1x576 ![] bcast_S_S1x576 (res_main_call5_v0 V0))) (broadcastInDim S1x576 ![] bcast_S_S1x576 (constantI S_ 32 0#32)))) (subi (res_main_call5_v2 V0) (broadcastInDim S1x576 ![] bcast_S_S1x576 (constantI S_ 32 1#32))) (res_main_call5_v2 V0)))) (broadcastInDim S128x576 ![] bcast_S_S128x576 (constantI S_ 32 8#32))) (broadcastInDim S128x576 ![] bcast_S_S128x576 (constantI S_ 32 0#32))

theorem valid_at (n : Fin 128) (k : Fin 576) :
    valid V0 (ix2 n k) = IntOp.cmpi .sge (IntOp.subi (IntOp.addi (BitVec.ofNat 32 n) (fdiv (BitVec.ofNat 32 k))) 8#32) 0#32 := by
  pointwise [valid, res_main_v80, res_main_call5_v0, res_main_call5_v2]
  rfl

theorem select_yes (x y : EReal) : Scalar.select 1#1 x y = x := rfl

theorem select_no (x y : EReal) : Scalar.select 0#1 x y = y := rfl

/-- Scaled scores and biases, masked. -/
def masked (m : IVec S128x576 1) (x : FVec Ideal S2x16x128x64x576 .f32) (g : FVec Ideal S16x64x576 .f32) : FVec Ideal S2x16x128x64x576 .f32 :=
  select (broadcastInDim S2x16x128x64x576 ![0, 1, 2, 3, 4] bcast_S1x1x128x1x576_S2x16x128x64x576_0_1_2_3_4 (broadcastInDim S1x1x128x1x576 ![2, 4] bcast_S128x576_S1x1x128x1x576_2_4 m))
      (addf (mulf x (broadcastInDim S2x16x128x64x576 ![] bcast_S_S2x16x128x64x576 (constant S_ .f32 0x3E000000#32))) (broadcastInDim S2x16x128x64x576 ![0, 1, 2, 3, 4] bcast_S1x16x1x64x576_S2x16x128x64x576_0_1_2_3_4 (broadcastInDim S1x16x1x64x576 ![1, 3, 4] bcast_S16x64x576_S1x16x1x64x576_1_3_4 g))) (broadcastInDim S2x16x128x64x576 ![] bcast_S_S2x16x128x64x576 (id (constant S_ .f32 0xFF800000#32)))

theorem masked_at (m : IVec S128x576 1) (x : FVec Ideal S2x16x128x64x576 .f32) (g : FVec Ideal S16x64x576 .f32)
    (b : Fin 2) (h : Fin 16) (n : Fin 128) (a : Fin 64) (k : Fin 576) :
    masked m x g (ix5 b h n a k)
      = Scalar.select (m (ix2 n k)) (x (ix5 b h n a k) * Ideal.ofBits .f32 0x3E000000#32 + g (ix3 h a k)) (Ideal.ofBits .f32 0xFF800000#32) := by
  simp only [masked, id]
  pointwise

/-- The scores of every row on its band. -/
def scores (q : Spec.Rows) (t : FVec Ideal S2x128x576x16x64 .f32) : FVec Ideal S2x16x128x64x576 .f32 :=
  Host.dotGeneral dot_S2x128x64x16x64_S2x128x576x16x64_S2x16x128x64x576_4_4_2_2_031_031 none (shapeCast S2x128x64x16x64 q shapeCasts_S2x8192x1024_S2x128x64x16x64) t

theorem band_dot (q : Spec.Rows) (t : FVec Ideal S2x128x576x16x64 .f32) (b : Fin 2) (h : Fin 16) (n : Fin 128) (a : Fin 64) (k : Fin 576) :
    scores q t (ix5 b h n a k)
      = ∑ d : Fin 64, q (ix3 b ⟨(n : ℕ) * 64 + a, by omega⟩ ⟨(h : ℕ) * 64 + d, by omega⟩) * t (ix5 b n k h d) := by
  pointwise [scores]

theorem masked_logit (q kk : Spec.Rows) (rb : Spec.Table) (g : FVec Ideal S16x64x576 .f32)
    (hg : ∀ (h : Fin 16) (a : Fin 64) (k : Fin 576), g (ix3 h a k) = rb (ix3 0 h ⟨min 256 (640 + a - k), by omega⟩))
    (b : Fin 2) (h : Fin 16) (n : Fin 128) (a : Fin 64) (k : Fin 576) (s : Fin 8192) (col : Fin 1024)
    (hs : (s : ℕ) = 64 * n + a) (hc : (col : ℕ) / 64 = h) :
    masked (valid V0) (scores q (band V0 kk)) g (ix5 b h n a k) = Spec.logit q kk rb b s col k := by
  rw [masked_at, valid_at, valid_word, band_dot, hg, neg_inf]
  unfold Spec.logit
  have hq : 64 * ((s : ℕ) / 64) = 64 * n := by omega
  by_cases hk : 64 * (n : ℕ) + k < 512
  · rw [if_pos hk, dif_pos (by omega), select_no]
  · rw [if_neg hk, dif_neg (by omega), select_yes]
    refine congrArg₂ (· + ·) (congrArg (· * _) (Finset.sum_congr rfl fun d _ => ?_)) ?_
    · rw [band_at, dif_neg hk]
      exact congrArg₂ (fun x y : EReal => x * y)
        (congrArg q (congrArg₂ (ix3 b) (Fin.ext (by show (n : ℕ) * 64 + a = s; omega)) (Fin.ext (by show (h : ℕ) * 64 + d = 64 * ((col : ℕ) / 64) + d; omega))))
        (congrArg kk (congrArg₂ (ix3 b) (Fin.ext (by show 64 * (n : ℕ) + k - 512 = 64 * ((s : ℕ) / 64) + k - 512; omega)) (Fin.ext (by show 64 * (h : ℕ) + d = 64 * ((col : ℕ) / 64) + d; omega))))
    · exact congrArg rb (congrArg₂ (ix3 0) (Fin.ext hc.symm) (Fin.ext (by show min 256 (640 + (a : ℕ) - k) = min 256 (640 + (s : ℕ) % 64 - k); omega)))

theorem logits_at (b : Fin 2) (h : Fin 16) (n : Fin 128) (a : Fin 64) (k : Fin 576) (s : Fin 8192) (col : Fin 1024)
    (hs : (s : ℕ) = 64 * n + a) (hc : (col : ℕ) / 64 = h) :
    res_main_v90 V0 (ix5 b h n a k) = Spec.logit (V0 (Proc.devRef .tc main_arg1)) (V0 (Proc.devRef .tc main_arg2)) (V0 (Proc.devRef .tc main_arg4)) b s col k := by
  have e : res_main_v90 V0 = masked (valid V0) (scores (V0 (Proc.devRef .tc main_arg1)) (band V0 (V0 (Proc.devRef .tc main_arg2)))) (biases V0) := rfl
  exact (congrFun e _).trans (masked_logit V0 _ _ _ (biases V0) (biases_at V0) b h n a k s col hs hc)

/-- The output projection's operand: the reference's attention. -/
def attended : FVec Ideal S2x8192x1024 .f32 :=
  shapeCast _ (transpose S2x128x64x16x64 [0, 1, 4, 2, 3] (Host.dotGeneral dot_S2x128x576x16x64_S2x16x128x64x576_S2x128x16x64x64_2_4_4_3_013_021 none (band V0 (V0 (Proc.devRef .tc main_arg3))) (Host.divf (res_main_v97 V0) (broadcastInDim S2x16x128x64x576 ![0, 1, 2, 3, 4] bcast_S2x16x128x64x1_S2x16x128x64x576_0_1_2_3_4 (broadcastInDim S2x16x128x64x1 ![0, 1, 2, 3] bcast_S2x16x128x64_S2x16x128x64x1_0_1_2_3 (Host.reduceAdd (res_main_v97 V0) (constant S_ .f32 0x00000000#32) reducesTo_S2x16x128x64x576_S2x16x128x64_d4 h_S_))))) transposes_S2x128x16x64x64_S2x128x64x16x64_0_1_4_2_3) shapeCasts_S2x128x64x16x64_S2x8192x1024

/-- A maximum along the last of five axes, of any sizes. -/
theorem top_gen {n₀ n₁ n₂ n₃ n₄ : ℕ} (r : (⟨5, ![n₀, n₁, n₂, n₃, n₄]⟩ : Shape).ReducesTo [4] ⟨4, ![n₀, n₁, n₂, n₃]⟩) (hu : 0 < S_.numel)
    (f : FVec Ideal ⟨5, ![n₀, n₁, n₂, n₃, n₄]⟩ .f32) (b : Fin n₀) (h : Fin n₁) (n : Fin n₂) (a : Fin n₃) :
    (Host.reduce FloatOps.maximumf f (constant S_ .f32 0xFF800000#32) r hu : FVec Ideal ⟨4, ![n₀, n₁, n₂, n₃]⟩ .f32) (ix4 b h n a)
      = Finset.univ.fold max ⊥ (fun j : Fin n₄ => f (ix5 b h n a j)) := by
  pointwise
  rw [neg_inf]

theorem less_top_at (f : FVec Ideal S2x16x128x64x576 .f32) (g : FVec Ideal S2x16x128x64 .f32) (b : Fin 2) (h : Fin 16) (n : Fin 128) (a : Fin 64) (k : Fin 576) :
    (Host.exp (subf f (broadcastInDim S2x16x128x64x576 ![0, 1, 2, 3, 4] bcast_S2x16x128x64x1_S2x16x128x64x576_0_1_2_3_4 (broadcastInDim S2x16x128x64x1 ![0, 1, 2, 3] bcast_S2x16x128x64_S2x16x128x64x1_0_1_2_3 (maximumf (broadcastInDim S2x16x128x64 ![] bcast_S_S2x16x128x64 (constant S_ .f32 0xFF800000#32)) g)))) : FVec Ideal S2x16x128x64x576 .f32) (ix5 b h n a k)
      = Ideal.exp (f (ix5 b h n a k) - g (ix4 b h n a)) := by
  pointwise
  rw [neg_inf, max_eq_right bot_le]

/-- The exponentials of a row's logits, less their maximum. -/
theorem exps_at (f : FVec Ideal S2x16x128x64x576 .f32) (b : Fin 2) (h : Fin 16) (n : Fin 128) (a : Fin 64) (k : Fin 576) :
    (Host.exp (subf f (broadcastInDim S2x16x128x64x576 ![0, 1, 2, 3, 4] bcast_S2x16x128x64x1_S2x16x128x64x576_0_1_2_3_4 (broadcastInDim S2x16x128x64x1 ![0, 1, 2, 3] bcast_S2x16x128x64_S2x16x128x64x1_0_1_2_3 (maximumf (broadcastInDim S2x16x128x64 ![] bcast_S_S2x16x128x64 (constant S_ .f32 0xFF800000#32)) (Host.reduce FloatOps.maximumf f (constant S_ .f32 0xFF800000#32) reducesTo_S2x16x128x64x576_S2x16x128x64_d4 h_S_))))) : FVec Ideal S2x16x128x64x576 .f32) (ix5 b h n a k)
      = Ideal.exp (f (ix5 b h n a k) - Finset.univ.fold max ⊥ (fun j : Fin 576 => f (ix5 b h n a j))) := by
  rw [less_top_at, top_gen]

theorem powers_at (b : Fin 2) (s : Fin 8192) (col : Fin 1024) (h : Fin 16) (n : Fin 128) (a : Fin 64) (k : Fin 576)
    (hs : (s : ℕ) = 64 * n + a) (hc : (col : ℕ) / 64 = h) :
    res_main_v97 V0 (ix5 b h n a k) = Ideal.exp (Spec.logit (V0 (Proc.devRef .tc main_arg1)) (V0 (Proc.devRef .tc main_arg2)) (V0 (Proc.devRef .tc main_arg4)) b s col k - Finset.univ.fold max ⊥ (Spec.logit (V0 (Proc.devRef .tc main_arg1)) (V0 (Proc.devRef .tc main_arg2)) (V0 (Proc.devRef .tc main_arg4)) b s col)) := by
  unfold res_main_v97
  rw [exps_at]
  rw [logits_at V0 b h n a k s col hs hc]
  refine congrArg (fun m => Ideal.exp (_ - m)) ?_
  exact congrArg (fun f : Fin 576 → EReal => Finset.univ.fold max ⊥ f) (funext fun j => logits_at V0 b h n a j s col hs hc)

theorem value_at (v : Spec.Rows) (b : Fin 2) (s : Fin 8192) (col : Fin 1024) (h : Fin 16) (n : Fin 128) (d : Fin 64) (k : Fin 576)
    (hn : (n : ℕ) = s / 64) (hc : (col : ℕ) = 64 * h + d) : band V0 v (ix5 b n k h d) = Spec.value v b s col k := by
  rw [band_at]
  unfold Spec.value
  by_cases hk : 64 * (n : ℕ) + k < 512
  · rw [dif_pos hk, dif_pos (by omega)]
  · rw [dif_neg hk, dif_neg (by omega)]
    exact congrArg v (congrArg₂ (ix3 b) (Fin.ext (by show 64 * (n : ℕ) + k - 512 = 64 * ((s : ℕ) / 64) + k - 512; omega)) (Fin.ext hc.symm))

theorem attended_gen (t : FVec Ideal S2x128x576x16x64 .f32) (e : FVec Ideal S2x16x128x64x576 .f32) (b : Fin 2) (s : Fin 8192) (col : Fin 1024) :
    (shapeCast S2x8192x1024 (transpose S2x128x64x16x64 [0, 1, 4, 2, 3] (Host.dotGeneral dot_S2x128x576x16x64_S2x16x128x64x576_S2x128x16x64x64_2_4_4_3_013_021 none t (Host.divf e (broadcastInDim S2x16x128x64x576 ![0, 1, 2, 3, 4] bcast_S2x16x128x64x1_S2x16x128x64x576_0_1_2_3_4 (broadcastInDim S2x16x128x64x1 ![0, 1, 2, 3] bcast_S2x16x128x64_S2x16x128x64x1_0_1_2_3 (Host.reduceAdd e (constant S_ .f32 0x00000000#32) reducesTo_S2x16x128x64x576_S2x16x128x64_d4 h_S_))))) transposes_S2x128x16x64x64_S2x128x64x16x64_0_1_4_2_3) shapeCasts_S2x128x64x16x64_S2x8192x1024 : FVec Ideal S2x8192x1024 .f32) (ix3 b s col)
      = ∑ u : Fin 576, t (ix5 b ⟨(s : ℕ) / 64, by omega⟩ u ⟨(col : ℕ) / 64, by omega⟩ ⟨(col : ℕ) % 64, by omega⟩) *
        Ideal.div (e (ix5 b ⟨(col : ℕ) / 64, by omega⟩ ⟨(s : ℕ) / 64, by omega⟩ ⟨(s : ℕ) % 64, by omega⟩ u))
          (∑ j : Fin 576, e (ix5 b ⟨(col : ℕ) / 64, by omega⟩ ⟨(s : ℕ) / 64, by omega⟩ ⟨(s : ℕ) % 64, by omega⟩ j)) := by
  pointwise

theorem attended_at (b : Fin 2) (s : Fin 8192) (col : Fin 1024) :
    attended V0 (ix3 b s col) = Spec.attend (V0 (Proc.devRef .tc main_arg1)) (V0 (Proc.devRef .tc main_arg2)) (V0 (Proc.devRef .tc main_arg3)) (V0 (Proc.devRef .tc main_arg4)) b s col := by
  have p := fun k => powers_at V0 b s col ⟨(col : ℕ) / 64, by omega⟩ ⟨(s : ℕ) / 64, by omega⟩ ⟨(s : ℕ) % 64, by omega⟩ k (by show (s : ℕ) = 64 * (s / 64) + s % 64; omega) rfl
  have w := fun k => value_at V0 (V0 (Proc.devRef .tc main_arg3)) b s col ⟨(col : ℕ) / 64, by omega⟩ ⟨(s : ℕ) / 64, by omega⟩ ⟨(col : ℕ) % 64, by omega⟩ k rfl (by show (col : ℕ) = 64 * (col / 64) + col % 64; omega)
  unfold attended
  rw [attended_gen]
  generalize res_main_v97 V0 = e at p ⊢
  unfold Spec.attend
  refine Finset.sum_congr rfl fun u _ => ?_
  rw [w u]
  refine (mul_comm _ _).trans (congrArg (· * _) ?_)
  exact congrArg₂ Ideal.div (p u) (Finset.sum_congr rfl fun j _ => p j)

theorem projected_gen (t : FVec Ideal S2x8192x1024 .f32) (w : FVec Ideal S1x1024x1024 .f32) (b : Fin 2) (s : Fin 8192) (col : Fin 1024) :
    (Host.dotGeneral dot_S2x8192x1024_S1024x1024_S2x8192x1024_2_0_01_1_n_n none t (shapeCast S1024x1024 w shapeCasts_S1x1024x1024_S1024x1024) : FVec Ideal S2x8192x1024 .f32) (ix3 b s col)
      = ∑ c : Fin 1024, t (ix3 b s c) * w (ix3 0 c col) := by
  pointwise

theorem projected_at (b : Fin 2) (s : Fin 8192) (col : Fin 1024) :
    res_main_v106 V0 (ix3 b s col) = Spec.project (V0 (Proc.devRef .tc main_arg1)) (V0 (Proc.devRef .tc main_arg2)) (V0 (Proc.devRef .tc main_arg3)) (V0 (Proc.devRef .tc main_arg4)) (V0 (Proc.devRef .tc main_arg5)) b s col := by
  have e : res_main_v106 V0 = (Host.dotGeneral dot_S2x8192x1024_S1024x1024_S2x8192x1024_2_0_01_1_n_n none (attended V0) (shapeCast S1024x1024 (V0 (Proc.devRef .tc main_arg5) : FVec Ideal S1x1024x1024 .f32) shapeCasts_S1x1024x1024_S1024x1024) : FVec Ideal S2x8192x1024 .f32) := rfl
  rw [e]
  refine (projected_gen _ _ b s col).trans ?_
  unfold Spec.project
  exact Finset.sum_congr rfl fun c _ => congrArg (· * _) (attended_at V0 b s c)

end Cert.Ref
end
-- ==== Proof.Ends.lean ====
module

public import proofs.«01_k».proof.Proof.Host
public import proofs.«01_k».proof.Proof.RefAt

/-! # The last steps of both programs, read at an index -/

@[expose] public section

set_option maxRecDepth 16384

noncomputable section

namespace Cert.Att

open Cert.KernelIdeal Cert.KernelIdeal.Gen Idealize.ShloMosaic Idealize.ShloMosaic.TcCoe

/-- A row's normalised, gated sum with what it came from. -/
def gated (x gate norm : EReal) (y : Fin 1024 → EReal) (e : Fin 1024) : EReal :=
  x + gate * ((y e * Ideal.rsqrt (Ideal.div (∑ c, y c * y c) (Ideal.ofBits .f32 0x44800000#32) + Ideal.ofBits .f32 0x358637BD#32)) * norm)

theorem stored_at (O W : Vec Ideal S1024x1024 .bf16) (X : Vec Ideal S1x1024x1024 .f32) (N : Vec Ideal S1x1x1024 .f32) (M : Vec Ideal S1x1x1x1024 .f32)
    (z : Fin 1) (r e : Fin 1024) :
    k0_pay995 O W X N M (ix3 z r e) = gated (X (ix3 0 r e)) (M (ix4 0 0 0 e)) (N (ix3 0 0 e)) (fun e => ∑ c : Fin 1024, O (ix2 r c) * W (ix2 c e)) e := by
  pointwise [k0_pay995]
  unfold gated
  refine congrArg (fun t : EReal => X (ix3 0 r e) + t) ?_
  exact mul_left_comm _ _ _
end Cert.Att

namespace Cert.Ref
open Cert.ReferenceIdeal Cert.ReferenceIdeal.Gen Idealize.ShloMosaic Idealize.ShloMosaic.TcCoe

/-- The reference's last step over what it reads. -/
def last (x y : Spec.Rows) (mod : FVec Ideal S2x2x6144 .f32) (ng : FVec Ideal S2x4x1024 .f32) : Spec.Rows :=
 addf x (mulf (broadcastInDim S2x8192x1024 ![0, 1, 2] bcast_S2x1x1024_S2x8192x1024_0_1_2 (broadcastInDim S2x1x1024 ![0, 2] bcast_S2x1024_S2x1x1024_0_2 (extractStridedSlice S2x1024 ![0, 2048] (shapeCast S2x6144 (extractStridedSlice S1x2x6144 ![1, 0, 0] mod slices_S2x2x6144_S1x2x6144_1_0_0) shapeCasts_S1x2x6144_S2x6144) slices_S2x6144_S2x1024_0_2048))) (mulf (mulf y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf y y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1x1024 ![1, 1, 0] ng slices_S2x4x1024_S1x1x1024_1_1_0) shapeCasts_S1x1x1024_S1024)))))

theorem last_at (x y : Spec.Rows) (mod : FVec Ideal S2x2x6144 .f32) (ng : FVec Ideal S2x4x1024 .f32) (b : Fin 2) (s : Fin 8192) (e : Fin 1024) :
    last x y mod ng (ix3 b s e) = Att.gated (x (ix3 b s e)) (mod (ix3 1 b ⟨2048 + e, by omega⟩)) (ng (ix3 1 1 e)) (fun c => y (ix3 b s c)) e := by
  pointwise [last]
  rfl
end Cert.Ref
end
-- ==== Proof.Pieces.lean ====
module

public import proofs.«01_k».proof.Proof.Gen.KernelIdeal.Frame
public import proofs.«01_k».proof.Proof.Att

/-! # What the body leaves in its buffer of attention outputs, piece by piece -/

@[expose] public section

set_option maxRecDepth 16384

noncomputable section

namespace Cert.Att

open Cert.KernelIdeal Cert.KernelIdeal.Gen Idealize.ShloMosaic Idealize.ShloMosaic.TcCoe

section Generic
variable {F : FTy → Type} [FloatOps F] [Named F]

theorem inQ (g j : Fin 4) (p : Fin 8) :
    ∀ a, ![0, 256 * (g : ℕ) + 64 * j, 128 * (p : ℕ)] a + S1x64x128.size a ≤ S1x1024x1024.size a
  | ⟨0, _⟩ => show 0 + 1 ≤ 1 by omega
  | ⟨1, _⟩ => show 256 * (g : ℕ) + 64 * j + 64 ≤ 1024 by omega
  | ⟨2, _⟩ => show 128 * (p : ℕ) + 128 ≤ 1024 by omega

theorem inW (g : Fin 4) (p : Fin 8) :
    ∀ a, ![256 * (g : ℕ), 128 * (p : ℕ)] a + S768x128.size a ≤ S1536x1024.size a
  | ⟨0, _⟩ => show 256 * (g : ℕ) + 768 ≤ 1536 by omega
  | ⟨1, _⟩ => show 128 * (p : ℕ) + 128 ≤ 1024 by omega

theorem inB (r : Fin 2) (p : Fin 8) (u : Fin 4) :
    ∀ a, ![(r : ℕ), (p : ℕ), 32 * (u : ℕ), 0] a + S1x1x32x640.size a ≤ S2x8x128x640.size a
  | ⟨0, _⟩ => show (r : ℕ) + 1 ≤ 2 by omega
  | ⟨1, _⟩ => show (p : ℕ) + 1 ≤ 8 by omega
  | ⟨2, _⟩ => show 32 * (u : ℕ) + 32 ≤ 128 by omega
  | ⟨3, _⟩ => show 0 + 640 ≤ 640 by omega

theorem inT (g j : Fin 4) (p : Fin 8) :
    ∀ a, ![256 * (g : ℕ) + 64 * j, 128 * (p : ℕ)] a + S64x128.size a ≤ S1024x1024.size a
  | ⟨0, _⟩ => show 256 * (g : ℕ) + 64 * j + 64 ≤ 1024 by omega
  | ⟨1, _⟩ => show 128 * (p : ℕ) + 128 ≤ 1024 by omega

theorem rows_fit : ∀ j : Fin 4, S512x128.Slices ![128 * (j : ℕ), 0] S64x128 := by decide
theorem rows_fit' : ∀ j : Fin 4, S512x128.Slices ![128 * (j : ℕ) + 64, 0] S64x128 := by decide

/-- A chunk's queries of a pair of heads, loaded. -/
def ldq (c : Dev nD) (arg3 : Memref sig .tc .vmem S1x1024x1024 .bf16) (harg3 : arg3.IsWhole)
    (x1 : Vec F S1x1024x1024 .bf16) (g j : Fin 4) (p : Fin 8) : Vec F S1x64x128 .bf16 :=
  View.readAt (Elt F) arg3.view (Rect.unit (s := S1x1024x1024) ![0, 256 * (g : ℕ) + 64 * j, 128 * (p : ℕ)] S1x64x128.size (inQ g j p)).toLoadRect (harg3.unread x1)

/-- A window of a pair's keys (or values), loaded. -/
def ldw (c : Dev nD) (arg4 : Memref sig .tc .vmem S1x1536x1024 .bf16) (harg4 : arg4.IsWhole)
    (x2 : Vec F S1x1536x1024 .bf16) (g : Fin 4) (p : Fin 8) : Vec F S768x128 .bf16 :=
  View.readAt (Elt F)
    ((arg4.slice (Rect.unit ![0, 0, 0] S1x1536x1024.size inb_S1x1536x1024_S1x1536x1024_0_0_0) (fun _ => rfl)).squeeze S1536x1024 squeezes_S1x1536x1024_S1536x1024).view
    (Rect.unit (s := S1536x1024) ![256 * (g : ℕ), 128 * (p : ℕ)] S768x128.size (inW g p)).toLoadRect (harg4.unread x2)

/-- A block of 32 rows of a pair's bias, loaded. -/
def ldb (c : Dev nD) (arg6 : Memref sig .tc .vmem S2x8x128x640 .f32) (harg6 : arg6.IsWhole)
    (x4 : Vec F S2x8x128x640 .f32) (p : Fin 8) (r : Fin 2) (u : Fin 4) : Vec F S1x1x32x640 .f32 :=
  View.readAt (Elt F) arg6.view (Rect.unit (s := S2x8x128x640) ![(r : ℕ), (p : ℕ), 32 * (u : ℕ), 0] S1x1x32x640.size (inB r p u)).toLoadRect (harg6.unread x4)

/-- A group's logits as its body has them: the first two groups' masked before the sequence's start. -/
def cutAt (i : grid0.Coords) (g : Fin 4) (s : FVec F S512x768 .f32) : FVec F S512x768 .f32 :=
  match g with
  | 0 => masked (k0_pay4 i) s
  | 1 => masked (k0_pay5 i) s
  | 2 => s
  | 3 => s

variable (c : Dev nD) (i : grid0.Coords) (arg3 : Memref sig .tc .vmem S1x1024x1024 .bf16) (harg3 : arg3.IsWhole)
  (arg4 : Memref sig .tc .vmem S1x1536x1024 .bf16) (harg4 : arg4.IsWhole)
  (arg5 : Memref sig .tc .vmem S1x1536x1024 .bf16) (harg5 : arg5.IsWhole)
  (arg6 : Memref sig .tc .vmem S2x8x128x640 .f32) (harg6 : arg6.IsWhole)
  (x1 : Vec F S1x1024x1024 .bf16) (x2 x3 : Vec F S1x1536x1024 .bf16) (x4 : Vec F S2x8x128x640 .f32)

/-- The tile of a chunk and a pair of heads. -/
def piece (g : Fin 4) (p : Fin 8) (j : Fin 4) : FVec F S64x128 .bf16 :=
  tile (quotient (weights
      (cutAt i g (scores (ldq c arg3 harg3 x1 g 0 p) (ldq c arg3 harg3 x1 g 1 p) (ldq c arg3 harg3 x1 g 2 p) (ldq c arg3 harg3 x1 g 3 p)
        (ldw c arg4 harg4 x2 g p)))
      (ldb c arg6 harg6 x4 p 0 0) (ldb c arg6 harg6 x4 p 0 1) (ldb c arg6 harg6 x4 p 0 2) (ldb c arg6 harg6 x4 p 0 3)
      (ldb c arg6 harg6 x4 p 1 0) (ldb c arg6 harg6 x4 p 1 1) (ldb c arg6 harg6 x4 p 1 2) (ldb c arg6 harg6 x4 p 1 3))
    (ldw c arg5 harg5 x3 g p)) (128 * j) (128 * j + 64) (rows_fit j) (rows_fit' j)

/-- The chunks and pairs of heads in the order in which their tiles are stored, the last first. -/
def order : List (Fin 4 × Fin 8 × Fin 4) :=
  [3, 2, 1, 0].flatMap fun g => [7, 6, 5, 4, 3, 2, 1, 0].flatMap fun p => [3, 2, 1, 0].map fun j => (g, p, j)

/-- The buffer's pieces are the tiles, in that order. -/
theorem pieces_eq : kernelRun0_A.sl.HS0_128 c i arg3 harg3 arg4 harg4 arg5 harg5 arg6 harg6 x1 x2 x3 x4 =
    order.map fun o => ⟨Rect.unit (s := S1024x1024) ![256 * (o.1 : ℕ) + 64 * o.2.2, 128 * (o.2.1 : ℕ)] S64x128.size (inT o.1 o.2.2 o.2.1),
      piece c i arg3 harg3 arg4 harg4 arg5 harg5 arg6 harg6 x1 x2 x3 x4 o.1 o.2.1 o.2.2⟩ := rfl

end Generic
end Cert.Att
end
-- ==== Proof.Obuf.lean ====
module

public import proofs.«01_k».proof.Proof.Pieces
public import proofs.«01_k».proof.Proof.AttBody
public import Idealize.ShloMosaic.Lib.Pipeline.ValueKit
public import Idealize.ShloMosaic.Lib.WholeRead

/-! # The body's buffer of attention outputs, read entry by entry -/

@[expose] public section

set_option maxRecDepth 16384

noncomputable section

namespace Cert.Att

open Cert.KernelIdeal Cert.KernelIdeal.Gen Idealize.ShloMosaic Idealize.ShloMosaic.TcCoe

variable (c : Dev nD) (i : grid0.Coords) (arg3 : Memref sig .tc .vmem S1x1024x1024 .bf16) (harg3 : arg3.IsWhole)
  (arg4 : Memref sig .tc .vmem S1x1536x1024 .bf16) (harg4 : arg4.IsWhole)
  (arg5 : Memref sig .tc .vmem S1x1536x1024 .bf16) (harg5 : arg5.IsWhole)
  (arg6 : Memref sig .tc .vmem S2x8x128x640 .f32) (harg6 : arg6.IsWhole)
  (x1 : Vec Ideal S1x1024x1024 .bf16) (x2 x3 : Vec Ideal S1x1536x1024 .bf16) (x4 : Vec Ideal S2x8x128x640 .f32)

theorem ldq_at (g j : Fin 4) (p : Fin 8) (a : Fin 64) (l : Fin 128) :
    ldq (F := Ideal) c arg3 harg3 x1 g j p (ix3 0 a l) =
      x1 (ix3 0 ⟨256 * g + 64 * j + a, by omega⟩ ⟨128 * p + l, by omega⟩) := by
  unfold ldq
  rw [Memref.IsWhole.readAt_unread]
  refine congrArg x1 (funext fun b => Fin.ext ?_)
  match b with
  | ⟨0, _⟩ => rfl
  | ⟨1, _⟩ => show 256 * (g : ℕ) + 64 * j + 1 * (a : ℕ) = 256 * g + 64 * j + a; omega
  | ⟨2, _⟩ => show 128 * (p : ℕ) + 1 * (l : ℕ) = 128 * p + l; omega

theorem ldb_at (p : Fin 8) (r : Fin 2) (u : Fin 4) (a : Fin 32) (l : Fin 640) :
    ldb (F := Ideal) c arg6 harg6 x4 p r u (ix4 0 0 a l) = x4 (ix4 r p ⟨32 * u + a, by omega⟩ l) := by
  unfold ldb
  rw [Memref.IsWhole.readAt_unread]
  refine congrArg x4 (funext fun b => Fin.ext ?_)
  match b with
  | ⟨0, _⟩ => show (r : ℕ) + 1 * 0 = r; omega
  | ⟨1, _⟩ => show (p : ℕ) + 1 * 0 = p; omega
  | ⟨2, _⟩ => show 32 * (u : ℕ) + 1 * (a : ℕ) = 32 * u + a; omega
  | ⟨3, _⟩ => show 0 + 1 * (l : ℕ) = l; omega

theorem ldw_at (g : Fin 4) (p : Fin 8) (a : Fin 768) (l : Fin 128) :
    ldw (F := Ideal) c arg4 harg4 x2 g p (ix2 a l) = x2 (ix3 0 ⟨256 * g + a, by omega⟩ ⟨128 * p + l, by omega⟩) := by
  unfold ldw
  refine (harg4.readAt_slice_reshape_unread x2 _ _ _ _).trans ?_
  have e : ∀ y : S1536x1024.Idx, x2 ((Rect.unit (s := S1x1536x1024) ![0, 0, 0] S1x1536x1024.size inb_S1x1536x1024_S1x1536x1024_0_0_0).emb
      (Shape.reshapeEquiv squeezes_S1x1536x1024_S1536x1024.numel_eq y)) = x2 (ix3 0 (y 0) (y 1)) := by
    intro y
    have e1 : ∀ z : S1x1536x1024.Idx, (Rect.unit (s := S1x1536x1024) ![0, 0, 0] S1x1536x1024.size inb_S1x1536x1024_S1x1536x1024_0_0_0).emb z = z := by
      intro z
      refine funext fun b => Fin.ext ?_
      match b with
      | ⟨0, _⟩ => show 0 + 1 * (z 0 : ℕ) = z 0; omega
      | ⟨1, _⟩ => show 0 + 1 * (z 1 : ℕ) = z 1; omega
      | ⟨2, _⟩ => show 0 + 1 * (z 2 : ℕ) = z 2; omega
    rw [e1]
    have e2 : shapeCast S1536x1024 x2 squeezes_S1x1536x1024_S1536x1024.numel_eq y = x2 (ix3 0 (y 0) (y 1)) := by
      pointwise
    exact e2
  refine (e _).trans (congrArg x2 (funext fun b => Fin.ext ?_))
  match b with
  | ⟨0, _⟩ => rfl
  | ⟨1, _⟩ => show 256 * (g : ℕ) + 1 * (a : ℕ) = 256 * g + a; omega
  | ⟨2, _⟩ => show 128 * (p : ℕ) + 1 * (l : ℕ) = 128 * p + l; omega

theorem first_word : ∀ n : Fin 8, Scalar.cmpi .eq (BitVec.ofNat 32 (n : ℕ)) 0#32 = if (n : ℕ) = 0 then 1#1 else 0#1 := by decide

/-- The mask of the columns before a bound that holds at a batch's first grid point only. -/
theorem cut_at (d : ℕ) (P : IVec S512x768 1) (s : FVec Ideal S512x768 .f32) (r : Fin 512) (x : Fin 768) (hd : d < 1000)
    (hP : P = cmpi .slt (iota .tc S512x768 32 [1] iota_S512x768_d1_w32)
      (broadcast S512x768 (Scalar.select (Scalar.cmpi .eq (BitVec.ofNat 32 (i 1).val) 0#32) (BitVec.ofNat 32 d) 0#32))) :
    masked (F := Ideal) P s (ix2 r x) = if (x : ℕ) < (if decide ((i 1 : ℕ) = 0) then d else 0) then (⊥ : EReal) else s (ix2 r x) := by
  rw [masked_at, hP]
  have h := first_word (i 1)
  by_cases h0 : ((i 1 : Fin 8) : ℕ) = 0
  · rw [if_pos h0] at h
    rw [h]
    simp only [h0, decide_true, if_true]
    pointwise
    word_cmp
  · rw [if_neg h0] at h
    rw [h]
    simp only [h0, decide_false, Bool.false_eq_true, if_false]
    pointwise
    word_cmp

/-- A group's logits are the mask before the sequence's start and the scores from there. -/
theorem cutAt_at (g : Fin 4) (s : FVec Ideal S512x768 .f32) (r : Fin 512) (x : Fin 768) :
    cutAt (F := Ideal) i g s (ix2 r x) = if (x : ℕ) < before (decide ((i 1 : ℕ) = 0)) (256 * g) then (⊥ : EReal) else s (ix2 r x) := by
  match g with
  | 0 =>
    show masked (F := Ideal) (k0_pay4 i) s (ix2 r x) = _
    exact cut_at i 512 (k0_pay4 i) s r x (by omega) rfl
  | 1 =>
    show masked (F := Ideal) (k0_pay5 i) s (ix2 r x) = _
    exact cut_at i 256 (k0_pay5 i) s r x (by omega) rfl
  | 2 => simp [cutAt, before]
  | 3 => simp [cutAt, before]

theorem piece_at (g : Fin 4) (p : Fin 8) (j : Fin 4) (a : Fin 64) (l : Fin 128) :
    piece (F := Ideal) c i arg3 harg3 arg4 harg4 arg5 harg5 arg6 harg6 x1 x2 x3 x4 g p j (ix2 a l) =
      G (decide ((i 1 : ℕ) = 0)) x1 x2 x3 x4 ⟨256 * g + 64 * j + a, by omega⟩ ⟨128 * p + l, by omega⟩ := by
  unfold piece
  refine body_at (decide ((i 1 : ℕ) = 0)) x1 x2 x3 x4 g p (ldq c arg3 harg3 x1 g 0 p) (ldq c arg3 harg3 x1 g 1 p)
    (ldq c arg3 harg3 x1 g 2 p) (ldq c arg3 harg3 x1 g 3 p) (ldw c arg4 harg4 x2 g p) (ldw c arg5 harg5 x3 g p)
    (ldb c arg6 harg6 x4 p 0 0) (ldb c arg6 harg6 x4 p 0 1) (ldb c arg6 harg6 x4 p 0 2) (ldb c arg6 harg6 x4 p 0 3)
    (ldb c arg6 harg6 x4 p 1 0) (ldb c arg6 harg6 x4 p 1 1) (ldb c arg6 harg6 x4 p 1 2) (ldb c arg6 harg6 x4 p 1 3)
    _ ?_ ?_ ?_ ?_ ?_ j _ _ _ _ rfl rfl a l
  · intro j a l
    match j with
    | 0 => exact ldq_at c arg3 harg3 x1 g 0 p a l
    | 1 => exact ldq_at c arg3 harg3 x1 g 1 p a l
    | 2 => exact ldq_at c arg3 harg3 x1 g 2 p a l
    | 3 => exact ldq_at c arg3 harg3 x1 g 3 p a l
  · exact fun x l => ldw_at c arg4 harg4 x2 g p x l
  · exact fun x l => ldw_at c arg5 harg5 x3 g p x l
  · intro m a u
    match m with
    | 0 => exact ldb_at c arg6 harg6 x4 p 0 0 a u
    | 1 => exact ldb_at c arg6 harg6 x4 p 0 1 a u
    | 2 => exact ldb_at c arg6 harg6 x4 p 0 2 a u
    | 3 => exact ldb_at c arg6 harg6 x4 p 0 3 a u
    | 4 => exact ldb_at c arg6 harg6 x4 p 1 0 a u
    | 5 => exact ldb_at c arg6 harg6 x4 p 1 1 a u
    | 6 => exact ldb_at c arg6 harg6 x4 p 1 2 a u
    | 7 => exact ldb_at c arg6 harg6 x4 p 1 3 a u
  · exact fun r x => cutAt_at i g _ r x

theorem mem_order (g : Fin 4) (p : Fin 8) (j : Fin 4) : (g, p, j) ∈ order := by
  revert g p j; decide

/-- The whole buffer, loaded back. -/
theorem obuf_at (arg11 : Memref sig .tc .vmem S1024x1024 .bf16) (row col : Fin 1024) :
    arg11.view.readCov (kernelRun0_A.sl.HS0_128 (F := Ideal) c i arg3 harg3 arg4 harg4 arg5 harg5 arg6 harg6 x1 x2 x3 x4)
      (Rect.unit ![0, 0] S1024x1024.size inb_S1024x1024_S1024x1024_0_0).toLoadRect (ix2 row col) =
      G (decide ((i 1 : ℕ) = 0)) x1 x2 x3 x4 row col := by
  rw [pieces_eq]
  have e : (Rect.unit (s := S1024x1024) ![0, 0] S1024x1024.size inb_S1024x1024_S1024x1024_0_0).toLoadRect.idx (ix2 row col) = ix2 row col := by
    refine funext fun b => Fin.ext ?_
    match b with
    | ⟨0, _⟩ => show 0 + 1 * (row : ℕ) = row; omega
    | ⟨1, _⟩ => show 0 + 1 * (col : ℕ) = col; omega
  show View.read _ arg11.view (arg11.view.writes _ _ _) ((Rect.unit (s := S1024x1024) ![0, 0] S1024x1024.size inb_S1024x1024_S1024x1024_0_0).toLoadRect.idx (ix2 row col)) = _
  rw [e]
  refine View.read_writes_apply_of_pieces (v := arg11.view) (Val := Elt Ideal) _ (fun y => (G (decide ((i 1 : ℕ) = 0)) x1 x2 x3 x4 (y 0) (y 1) : Ideal .bf16)) _ ?_ (ix2 row col) ?_
  · intro q hq x
    obtain ⟨⟨g, p, j⟩, -, rfl⟩ := List.mem_map.mp hq
    have hx : x = ix2 (n0 := 64) (n1 := 128) (x 0) (x 1) := by idx_ext
    rw [hx]
    refine (piece_at c i arg3 harg3 arg4 harg4 arg5 harg5 arg6 harg6 x1 x2 x3 x4 g p j (x 0) (x 1)).trans ?_
    congr 1
    · exact Fin.ext (show 256 * (g : ℕ) + 64 * j + (x 0 : ℕ) = 256 * (g : ℕ) + 64 * j + 1 * (x 0 : ℕ) by omega)
    · exact Fin.ext (show 128 * (p : ℕ) + (x 1 : ℕ) = 128 * (p : ℕ) + 1 * (x 1 : ℕ) by omega)
  · refine ⟨_, List.mem_map.mpr ⟨(⟨row / 256, by omega⟩, ⟨col / 128, by omega⟩, ⟨row / 64 % 4, by omega⟩), mem_order _ _ _, rfl⟩, ?_⟩
    show ix2 row col ∈ (Rect.unit (s := S1024x1024) ![256 * ((row : ℕ) / 256) + 64 * ((row : ℕ) / 64 % 4), 128 * ((col : ℕ) / 128)] S64x128.size
      (inT ⟨row / 256, by omega⟩ ⟨row / 64 % 4, by omega⟩ ⟨col / 128, by omega⟩)).set
    rw [Rect.mem_set_unit]
    intro b
    match b with
    | ⟨0, _⟩ =>
      show 256 * ((row : ℕ) / 256) + 64 * ((row : ℕ) / 64 % 4) ≤ (row : ℕ) ∧ (row : ℕ) < 256 * ((row : ℕ) / 256) + 64 * ((row : ℕ) / 64 % 4) + 64
      omega
    | ⟨1, _⟩ =>
      show 128 * ((col : ℕ) / 128) ≤ (col : ℕ) ∧ (col : ℕ) < 128 * ((col : ℕ) / 128) + 128
      omega

end Cert.Att
end
-- ==== Proof.Final.lean ====
module

public import proofs.«01_k».proof.Proof.Tile
public import proofs.«01_k».proof.Proof.Blocks
public import proofs.«01_k».proof.Proof.Ends
public import proofs.«01_k».proof.Proof.Obuf

/-! # What the kernel leaves in its result -/

@[expose] public section

set_option maxRecDepth 16384

noncomputable section

namespace Cert.Att

open Cert.KernelIdeal Cert.KernelIdeal.Gen Idealize.ShloMosaic Idealize.ShloMosaic.TcCoe
open Idealize.ShloMosaic.Pipeline (Dat)

/-- The layer's attention, projected, normalised and gated. -/
def result (x q k v : Spec.Rows) (rb : Spec.Table) (w : FVec Ideal S1x1024x1024 .f32) (mod : FVec Ideal S2x2x6144 .f32) (ng : FVec Ideal S2x4x1024 .f32) :
    Spec.Rows := fun j =>
  gated (x j) (mod (ix3 1 (j 0) ⟨2048 + (j 2 : ℕ), by have : (j 2 : ℕ) < 1024 := (j 2).isLt; omega⟩)) (ng (ix3 1 1 (j 2)))
    (fun c => Spec.project q k v rb w (j 0) (j 1) c) (j 2)

variable (m : (ℓ : Loc nD τ sig) → Buf (Elt Ideal) ℓ) (c : Dev nD) (t : Fin cfg0.N)

/-- What the body leaves in its scratch before the projection. -/
def scratch : Vec Ideal S1024x1024 .bf16 :=
  scM0_0.view.readCov (kernelRun0_A.sl.HS0_128 (F := Ideal) c (grid0.coords t) (ms0_1 t) (hs0_1 t) (ms0_2 t) (hs0_2 t) (ms0_3 t) (hs0_3 t) (ms0_4 t) (hs0_4 t)
    (iblk m c 1 t) (iblk m c 2 t) (iblk m c 3 t) (iblk m c 4 t)) (Rect.unit ![0, 0] S1024x1024.size inb_S1024x1024_S1024x1024_0_0).toLoadRect

variable (hq : ∀ i, ∃ r : ℝ, (m ((c : Thread nD τ).loc main_arg1) : Spec.Rows) i = (r : EReal))
  (hk : ∀ i, ∃ r : ℝ, (m ((c : Thread nD τ).loc main_arg2) : Spec.Rows) i = (r : EReal))
  (hr : ∀ i, ∃ r : ℝ, (m ((c : Thread nD τ).loc main_arg4) : Spec.Table) i = (r : EReal))

include hq hk hr in
theorem scratch_at (r e : Fin 1024) : scratch m c t (ix2 r e) =
    Spec.attend (m ((c : Thread nD τ).loc main_arg1)) (m ((c : Thread nD τ).loc main_arg2)) (m ((c : Thread nD τ).loc main_arg3))
      (m ((c : Thread nD τ).loc main_arg4)) (batch t) (Spec.rowOf (tile_of t) r) e :=
  (obuf_at c (grid0.coords t) (ms0_1 t) (hs0_1 t) (ms0_2 t) (hs0_2 t) (ms0_3 t) (hs0_3 t) (ms0_4 t) (hs0_4 t)
    (iblk m c 1 t) (iblk m c 2 t) (iblk m c 3 t) (iblk m c 4 t) scM0_0 r e).trans
  (tile_is hq hk hr (batch t) (tile_of t) _ _ _ _ (in_q m c t) (in_k m c t) (in_v m c t) (in_bias m c t) r e)

/-- A result's entry from the five things the last step reads. -/
theorem entry (O W : Vec Ideal S1024x1024 .bf16) (X : Vec Ideal S1x1024x1024 .f32) (N : Vec Ideal S1x1x1024 .f32) (M : Vec Ideal S1x1x1x1024 .f32)
    (x q k v : Spec.Rows) (rb : Spec.Table) (w : FVec Ideal S1x1024x1024 .f32) (mod : FVec Ideal S2x2x6144 .f32) (ng : FVec Ideal S2x4x1024 .f32)
    (b : Fin 2) (i : Fin 8)
    (hO : ∀ r e : Fin 1024, O (ix2 r e) = Spec.attend q k v rb b (Spec.rowOf i r) e)
    (hW : ∀ a e : Fin 1024, W (ix2 a e) = w (ix3 0 a e))
    (hX : ∀ r e : Fin 1024, X (ix3 0 r e) = x (ix3 b (Spec.rowOf i r) e))
    (hN : ∀ e : Fin 1024, N (ix3 0 0 e) = ng (ix3 1 1 e))
    (hM : ∀ e : Fin 1024, M (ix4 0 0 0 e) = mod (ix3 1 b ⟨2048 + e, by omega⟩)) (r e : Fin 1024) :
    k0_pay995 O W X N M (ix3 0 r e) = result x q k v rb w mod ng (ix3 b (Spec.rowOf i r) e) := by
  rw [stored_at, hX, hN, hM]
  have : (fun e => ∑ c : Fin 1024, O (ix2 r c) * W (ix2 c e)) = fun e => Spec.project q k v rb w b (Spec.rowOf i r) e := by
    funext e
    exact Finset.sum_congr rfl fun a _ => congrArg₂ (fun x y : EReal => x * y) (hO r a) (hW a e)
  rw [this]
  rfl

theorem place_8 (X : FVec Ideal S2x8192x1024 .f32) (r e : Fin 1024) : X (((cfg0.win 8).blk t).view.emb (ix3 0 r e)) = X (ix3 (batch t) (Spec.rowOf (tile_of t) r) e) := by
  blk_ext [idx t, batch, tile_of, Spec.rowOf]

section
variable {κ : Kind} {sp : Space}
/-- A whole block's load reads the block. -/
theorem load_2 (M : Memref sig κ sp S1024x1024 .bf16) (h : M.IsWhole) (X : Vec Ideal S1024x1024 .bf16) (a b : Fin 1024) :
    View.readAt (Elt Ideal) M.view (Rect.unit (s := S1024x1024) ![0, 0] ![1024, 1024] inb_S1024x1024_S1024x1024_0_0).toLoadRect (h.unread X) (ix2 a b) = X (ix2 a b) :=
  (h.readAt_unread X _ _).trans (congrArg X (funext fun d => Fin.ext (by
    match d with
    | ⟨0, _⟩ => show 0 + 1 * (a : ℕ) = a; omega
    | ⟨1, _⟩ => show 0 + 1 * (b : ℕ) = b; omega)))
theorem load_3 (M : Memref sig κ sp S1x1024x1024 .f32) (h : M.IsWhole) (X : Vec Ideal S1x1024x1024 .f32) (a b : Fin 1024) :
    View.readAt (Elt Ideal) M.view (Rect.unit (s := S1x1024x1024) ![0, 0, 0] ![1, 1024, 1024] inb_S1x1024x1024_S1x1024x1024_0_0_0).toLoadRect (h.unread X) (ix3 0 a b) = X (ix3 0 a b) :=
  (h.readAt_unread X _ _).trans (congrArg X (funext fun d => Fin.ext (by
    match d with
    | ⟨0, _⟩ => rfl
    | ⟨1, _⟩ => show 0 + 1 * (a : ℕ) = a; omega
    | ⟨2, _⟩ => show 0 + 1 * (b : ℕ) = b; omega)))
theorem load_norm (M : Memref sig κ sp S1x4x1024 .f32) (h : M.IsWhole) (X : Vec Ideal S1x4x1024 .f32) (b : Fin 1024) :
    View.readAt (Elt Ideal) M.view (Rect.unit (s := S1x4x1024) ![0, 1, 0] ![1, 1, 1024] inb_S1x4x1024_S1x1x1024_0_1_0).toLoadRect (h.unread X) (ix3 0 0 b) = X (ix3 0 1 b) :=
  (h.readAt_unread X _ _).trans (congrArg X (funext fun d => Fin.ext (by
    match d with
    | ⟨0, _⟩ => rfl
    | ⟨1, _⟩ => rfl
    | ⟨2, _⟩ => show 0 + 1 * (b : ℕ) = b; omega)))
theorem load_mod (M : Memref sig κ sp S1x1x6x1024 .f32) (h : M.IsWhole) (X : Vec Ideal S1x1x6x1024 .f32) (b : Fin 1024) :
    View.readAt (Elt Ideal) M.view (Rect.unit (s := S1x1x6x1024) ![0, 0, 2, 0] ![1, 1, 1, 1024] inb_S1x1x6x1024_S1x1x1x1024_0_0_2_0).toLoadRect (h.unread X) (ix4 0 0 0 b) = X (ix4 0 0 2 b) :=
  (h.readAt_unread X _ _).trans (congrArg X (funext fun d => Fin.ext (by
    match d with
    | ⟨0, _⟩ => rfl
    | ⟨1, _⟩ => rfl
    | ⟨2, _⟩ => rfl
    | ⟨3, _⟩ => show 0 + 1 * (b : ℕ) = b; omega)))
/-- A whole block's store leaves what it stores. -/
theorem store_3 (v : View sig κ sp S1x1024x1024 .f32) (f) (w : Vec Ideal S1x1024x1024 .f32) (a b : Fin 1024) :
    v.read (Elt Ideal) (v.writes (Elt Ideal) f [⟨Rect.unit (s := S1x1024x1024) ![0, 0, 0] ![1, 1024, 1024] inb_S1x1024x1024_S1x1024x1024_0_0_0, w⟩]) (ix3 0 a b) = w (ix3 0 a b) := by
  refine View.read_writes_apply_of_pieces (v := v) (Val := Elt Ideal) _ w _ ?_ (ix3 0 a b) ?_
  · intro q hq x
    obtain rfl := List.mem_singleton.mp hq
    refine congrArg w (funext fun d => Fin.ext ?_)
    match d with
    | ⟨0, _⟩ => exact (by omega : ∀ n : ℕ, n = 0 + 1 * n) _
    | ⟨1, _⟩ => exact (by omega : ∀ n : ℕ, n = 0 + 1 * n) _
    | ⟨2, _⟩ => exact (by omega : ∀ n : ℕ, n = 0 + 1 * n) _
  · refine ⟨_, List.mem_singleton.mpr rfl, ?_⟩
    show ix3 0 a b ∈ (Rect.unit (s := S1x1024x1024) ![0, 0, 0] ![1, 1024, 1024] inb_S1x1024x1024_S1x1024x1024_0_0_0).set
    rw [Rect.mem_set_unit]
    intro d
    match d with
    | ⟨0, _⟩ => show 0 ≤ 0 ∧ 0 < 0 + 1; omega
    | ⟨1, _⟩ => show 0 ≤ (a : ℕ) ∧ (a : ℕ) < 0 + 1024; omega
    | ⟨2, _⟩ => show 0 ≤ (b : ℕ) ∧ (b : ℕ) < 0 + 1024; omega
end

include hq hk hr in
/-- What a grid point leaves at a block's entry. -/
theorem point_at (r e : Fin 1024) : outsAt0 m c t (ix3 0 r e) = result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (ix3 (batch t) (Spec.rowOf (tile_of t) r) e) := by
  unfold outsAt0 out0_A_8 kernelRun0_A; dsimp only; unfold kernelRun0_A.sl.v7725
  refine (store_3 _ _ _ r e).trans ?_
  exact entry (scratch m c t) _ _ _ _ (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (batch t) (tile_of t)
    (scratch_at m c t hq hk hr)
    (fun a e => (load_2 _ _ _ a e).trans ((in_w m c t a e).trans (projW_at _ a e)))
    (fun r e => (load_3 _ _ _ r e).trans (in_x m c t r e))
    (fun e => (load_norm _ _ _ e).trans (in_norm m c t 1 e))
    (fun e => (load_mod _ _ _ e).trans ((in_mod m c t 2 e).trans (six_at _ 1 (batch t) e))) r e

include hq hk hr in
theorem final : (dats m 0 c).arrAt 8 cfg0.N = result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  have hy : y = (ix3 0 (y 1) (y 2) : S1x1024x1024.Idx) := by idx_ext
  rw [hy]
  exact (point_at m c t hq hk hr (y 1) (y 2)).trans (place_8 t _ (y 1) (y 2)).symm
end Cert.Att
end
-- ==== Proof.Pre.lean ====
module

public import proofs.«01_k».proof.Defs
public import proofs.«01_k».proof.Proof.Final
public import Idealize.ShloMosaic.Lib.ReduceAll

/-! # What the precondition says, and the reference's result -/

@[expose] public section

set_option maxRecDepth 16384

noncomputable section

namespace Cert.Attention

open Idealize.ShloMosaic Idealize.ShloMosaic.TcCoe

/-- The precondition's stated facts. -/
theorem finite_facts : Cert.Pre_finite.Facts where
  bcast_S_S2x8192x1024 := by decide
  reducesTo_S2x8192x1024_S_d0_1_2 := by decide
  h_S_ := by decide
  bcast_S_S1x16x257 := by decide
  reducesTo_S1x16x257_S_d0_1_2 := by decide

/-- An extended real below infinity in size is a real. -/
theorem real_of_small (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- An array all of whose entries are below infinity in size is of reals. -/
theorem reals {S s0 : Shape} [Subsingleton s0.Idx] (x : FVec Ideal S .f32) (dims) (hb : s0.BroadcastsInDim S dims) {axes} (hr : S.ReducesTo axes s0) (h0 : 0 < s0.numel)
    (j : s0.Idx) (h : Host.reduce IntOp.andi (cmpf .olt (Host.absf x) (broadcastInDim S dims hb (constant s0 .f32 0x7F800000#32))) (constantI s0 1 1#1) hr h0 j = 1#1) :
    ∀ i, ∃ r : ℝ, x i = (r : EReal) := fun i =>
  real_of_small (x i) (Host.reduce_andi_all _ _ _ _ j h i)

theorem and_one : ∀ a b : BitVec 1, IntOp.andi a b = 1#1 → a = 1#1 ∧ b = 1#1 := by decide

theorem finite_reals [Cert.Pre_finite.Facts] (a0 a1 a2 a3 : FVec Ideal Cert.Pre_finite.S2x8192x1024 .f32) (a4 : FVec Ideal Cert.Pre_finite.S1x16x257 .f32) (a5 a6 a7)
    (h : Cert.Pre_finite.fn (F := Ideal) a0 a1 a2 a3 a4 a5 a6 a7 = fun _ => 1#1) :
    (∀ i, ∃ r : ℝ, a1 i = (r : EReal)) ∧ (∀ i, ∃ r : ℝ, a2 i = (r : EReal)) ∧ (∀ i, ∃ r : ℝ, a4 i = (r : EReal)) := by
  have h' := congrFun h ix0
  obtain ⟨h12, h4⟩ := and_one _ _ h'
  obtain ⟨h1, h2⟩ := and_one _ _ h12
  exact ⟨reals a1 _ _ _ _ _ h1, reals a2 _ _ _ _ _ h2, reals a4 _ _ _ _ _ h4⟩

end Cert.Attention

namespace Cert.Ref
open Cert.ReferenceIdeal Cert.ReferenceIdeal.Gen Idealize.ShloMosaic Idealize.ShloMosaic.TcCoe

/-- The reference's last step over its attention is the kernel's result. -/
theorem last_result (x q k v y : Spec.Rows) (rb : Spec.Table) (w : FVec Ideal S1x1024x1024 .f32) (mod : FVec Ideal S2x2x6144 .f32) (ng : FVec Ideal S2x4x1024 .f32)
    (hy : ∀ b s c, y (ix3 b s c) = Spec.project q k v rb w b s c) :
    last x y mod ng = Att.result x q k v rb w mod ng := by
  funext j
  have hj : j = ix3 (j 0) (j 1) (j 2) := by idx_ext
  rw [hj]
  refine (last_at x y mod ng (j 0) (j 1) (j 2)).trans ?_
  unfold Att.result
  have : (fun c => y (ix3 (j 0) (j 1) c)) = fun c => Spec.project q k v rb w (j 0) (j 1) c := funext fun c => hy _ _ c
  rw [this]
  rfl

/-- What the reference's run leaves in its result. -/
theorem result_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v125) = Att.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (last_result _ _ _ _ _ _ _ _ _ fun b s e => projected_at (StableHlo.launchContents m c) b s e), (h c).2⟩)
    (Cert.ReferenceIdeal.Value.run m ρ)

end Cert.Ref

namespace Cert.Attention
open Idealize.ShloMosaic Idealize.ShloMosaic.TcCoe

/-- The kernel's run and the reference's end at one result. -/
theorem same : Cert.algebraic_KernelIdeal_ReferenceIdeal_pre_finite (hPre_finite := finite_facts) := by
  intro m g m' g' hpre hagree
  haveI := finite_facts
  refine ⟨fun c => Att.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KernelIdeal.Value.run_blocks m g)
    obtain ⟨hq, hk, hr⟩ := finite_reals _ _ _ _ _ _ _ _ (hpre c)
    exact Att.final m c hq hk hr
  · refine (θ_run Cert.ReferenceIdeal.defs _ _).mono (fun r h c => ⟨(h c).1.trans ?_, (h c).2⟩) (Cert.Ref.result_run m' g')
    obtain ⟨e0, e1, e2, e3, e4, e5, e6, e7⟩ := hagree c
    rw [e0, e1, e2, e3, e4, e5, e6, e7]

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem named : Cert.preserves_Kernel_KernelIdeal :=
  IdealRules.named_const.statement Cert.KernelIdeal.κ "mask" .f32 0xFF7F0000#32 ⊥ rfl

end Cert.Attention
end
-- ==== Proof.Ffn.lean ====
module

public import proofs.«01_k».proof.Proof.Ends
public import proofs.«01_k».proof.Proof.Gen.Kernel2Ideal.Value
public import Idealize.ShloMosaic.Lib.Pipeline.ValueKit

/-! # The feed-forward part: a block of rows of the kernel, read at an index -/

@[expose] public section

set_option maxRecDepth 16384

noncomputable section

namespace Cert.Ffn

open Idealize.ShloMosaic Idealize.ShloMosaic.TcCoe

/-- A row's normalised and modulated entry. -/
def hidden (x shift scale norm : Fin 1024 → EReal) (c : Fin 1024) : EReal :=
  x c * Ideal.rsqrt (Ideal.div (∑ c, x c * x c) (Ideal.ofBits .f32 0x44800000#32) + Ideal.ofBits .f32 0x358637BD#32)
    * (norm c * (1 + scale c)) + shift c

/-- A row's product with one column of weights. -/
def along (h : Fin 1024 → EReal) (w : Fin 1024 → Fin 2816 → EReal) (f : Fin 2816) : EReal := ∑ c, h c * w c f

/-- The gated product of two columns, through the second layer of weights. -/
def swiglu (h : Fin 1024 → EReal) (w u : Fin 1024 → Fin 2816 → EReal) (o : Fin 2816 → Fin 1024 → EReal) (e : Fin 1024) : EReal :=
  ∑ f, along h w f * Ideal.logistic (along h w f) * along h u f * o f e

section
open Cert.Kernel2Ideal Cert.Kernel2Ideal.Gen

theorem hidden_at (sh sc : Vec Ideal S1x1x1x1024 .f32) (X : Vec Ideal S1x256x1024 .f32) (G : Vec Ideal S1x1x1024 .f32) (r : Fin 256) (c : Fin 1024) :
    k0_pay6 sh sc X G (ix2 r c) = hidden (fun c => X (ix3 0 r c)) (fun c => sh (ix4 0 0 0 c)) (fun c => sc (ix4 0 0 0 c)) (fun c => G (ix3 0 0 c)) c := by
  pointwise [k0_pay6, k0_pay5, k0_pay3, k0_pay2]
  rfl

theorem first_at (sh sc : Vec Ideal S1x1x1x1024 .f32) (X : Vec Ideal S1x256x1024 .f32) (G : Vec Ideal S1x1x1024 .f32) (W : Vec Ideal S1024x2816 .bf16)
    (r : Fin 256) (f : Fin 2816) :
    k0_pay7 sh sc X G W (ix2 r f) = ∑ c : Fin 1024, k0_pay6 sh sc X G (ix2 r c) * W (ix2 c f) := by
  unfold k0_pay7
  generalize k0_pay6 sh sc X G = H
  pointwise []

theorem tail_at (gate : FVec Ideal S1x1024 .f32) (x : FVec Ideal S256x1024 .f32) (h : FVec Ideal S256x1024 .bf16) (a : FVec Ideal S256x2816 .f32)
    (U : Vec Ideal S1024x2816 .bf16) (O : Vec Ideal S2816x1024 .bf16) (N : Vec Ideal S1x1x1024 .f32) (r : Fin 256) (e : Fin 1024) :
    k0_pay8 gate x h a U O N (ix3 0 r e) = Att.gated (x (ix2 r e)) (gate (ix2 0 e)) (N (ix3 0 0 e))
      (fun e => ∑ f : Fin 2816, a (ix2 r f) * Ideal.logistic (a (ix2 r f)) * (∑ c : Fin 1024, h (ix2 r c) * U (ix2 c f)) * O (ix2 f e)) e := by
  pointwise [k0_pay8]
  unfold Att.gated
  refine congrArg (fun t : EReal => x (ix2 r e) + t) ?_
  exact mul_left_comm _ _ _

/-- What the body stores for one block of rows. -/
def block (sh sc gate : Vec Ideal S1x1x1x1024 .f32) (X : Vec Ideal S1x256x1024 .f32) (G : Vec Ideal S1x1x1024 .f32) (W U : Vec Ideal S1024x2816 .bf16)
    (O : Vec Ideal S2816x1024 .bf16) (N : Vec Ideal S1x1x1024 .f32) : FVec Ideal S1x256x1024 .f32 :=
  k0_pay8 (k0_pay4 gate) (k0_pay5 X) (k0_pay6 sh sc X G) (k0_pay7 sh sc X G W) U O N

theorem block_at (sh sc gate : Vec Ideal S1x1x1x1024 .f32) (X : Vec Ideal S1x256x1024 .f32) (G : Vec Ideal S1x1x1024 .f32) (W U : Vec Ideal S1024x2816 .bf16)
    (O : Vec Ideal S2816x1024 .bf16) (N : Vec Ideal S1x1x1024 .f32) (r : Fin 256) (e : Fin 1024) :
    block sh sc gate X G W U O N (ix3 0 r e) = Att.gated (X (ix3 0 r e)) (gate (ix4 0 0 0 e)) (N (ix3 0 0 e))
      (swiglu (hidden (fun c => X (ix3 0 r c)) (fun c => sh (ix4 0 0 0 c)) (fun c => sc (ix4 0 0 0 c)) (fun c => G (ix3 0 0 c)))
        (fun c f => W (ix2 c f)) (fun c f => U (ix2 c f)) (fun f e => O (ix2 f e))) e := by
  have hx : k0_pay5 X (ix2 r e) = X (ix3 0 r e) := by pointwise [k0_pay5]
  have hg : k0_pay4 gate (ix2 0 e) = gate (ix4 0 0 0 e) := by pointwise [k0_pay4]
  refine (tail_at _ _ _ _ U O N r e).trans ?_
  rw [hx, hg]
  simp only [first_at, hidden_at]
  rfl

/-- The other three blocks' payloads are the first's. -/
theorem second (sh sc gate : Vec Ideal S1x1x1x1024 .f32) (X : Vec Ideal S1x256x1024 .f32) (G : Vec Ideal S1x1x1024 .f32) (W U : Vec Ideal S1024x2816 .bf16)
    (O : Vec Ideal S2816x1024 .bf16) (N : Vec Ideal S1x1x1024 .f32) :
    k0_pay12 (k0_pay11 (k0_pay2 sh) (k0_pay3 sc) (k0_pay4 gate) (k0_pay9 X) (k0_pay10 X) G W U O N) = block sh sc gate X G W U O N := rfl
theorem third (sh sc gate : Vec Ideal S1x1x1x1024 .f32) (X : Vec Ideal S1x256x1024 .f32) (G : Vec Ideal S1x1x1024 .f32) (W U : Vec Ideal S1024x2816 .bf16)
    (O : Vec Ideal S2816x1024 .bf16) (N : Vec Ideal S1x1x1024 .f32) :
    k0_pay15 (k0_pay4 gate) (k0_pay13 X) (k0_pay14 (k0_pay2 sh) (k0_pay3 sc) X G W U O) N = block sh sc gate X G W U O N := rfl
theorem fourth (sh sc gate : Vec Ideal S1x1x1x1024 .f32) (X : Vec Ideal S1x256x1024 .f32) (G : Vec Ideal S1x1x1024 .f32) (W U : Vec Ideal S1024x2816 .bf16)
    (O : Vec Ideal S2816x1024 .bf16) (N : Vec Ideal S1x1x1024 .f32) :
    k0_pay1 (k0_pay4 gate) (k0_pay16 X) (k0_pay17 (k0_pay2 sh) (k0_pay3 sc) X G) W U O N = block sh sc gate X G W U O N := rfl
end
end Cert.Ffn
end
-- ==== Proof.FfnTile.lean ====
module

public import proofs.«01_k».proof.Proof.Ffn
public import Idealize.ShloMosaic.Lib.Pipeline.ReadBack

/-! # The feed-forward part: what a grid point leaves in its tile -/

@[expose] public section

set_option maxRecDepth 16384

noncomputable section

namespace Cert.Ffn

open Idealize.ShloMosaic Idealize.ShloMosaic.TcCoe

/-- The two halves of the first layer's columns. -/
def gateCol (f : Fin 2816) : Fin 5632 := ⟨f, by omega⟩
def upCol (f : Fin 2816) : Fin 5632 := ⟨2816 + f, by omega⟩

open Cert.Kernel2Ideal Cert.Kernel2Ideal.Gen

/-- A tile's entry, from the tile's blocks. -/
def tile (x0 : Vec Ideal S1x1024x1024 .f32) (x1 : Vec Ideal S1x1x6x1024 .f32) (x2 : Vec Ideal S1x4x1024 .f32) (x3 : Vec Ideal S1024x5632 .bf16)
    (x4 : Vec Ideal S2816x1024 .bf16) : Vec Ideal S1x1024x1024 .f32 := fun j =>
  Att.gated (x0 (ix3 0 (j 1) (j 2))) (x1 (ix4 0 0 5 (j 2))) (x2 (ix3 0 3 (j 2)))
    (swiglu (hidden (fun c => x0 (ix3 0 (j 1) c)) (fun c => x1 (ix4 0 0 3 c)) (fun c => x1 (ix4 0 0 4 c)) (fun c => x2 (ix3 0 2 c)))
      (fun c f => x3 (ix2 c (gateCol f))) (fun c f => x3 (ix2 c (upCol f))) (fun f e => x4 (ix2 f e))) (j 2)

/-- A block of rows of a tile, from what is loaded for it. -/
theorem block_of (x0 : Vec Ideal S1x1024x1024 .f32) (x1 : Vec Ideal S1x1x6x1024 .f32) (x2 : Vec Ideal S1x4x1024 .f32) (x3 : Vec Ideal S1024x5632 .bf16)
    (x4 : Vec Ideal S2816x1024 .bf16) (sh sc gate : Vec Ideal S1x1x1x1024 .f32) (X : Vec Ideal S1x256x1024 .f32) (G : Vec Ideal S1x1x1024 .f32)
    (W U : Vec Ideal S1024x2816 .bf16) (O : Vec Ideal S2816x1024 .bf16) (N : Vec Ideal S1x1x1024 .f32) (R : Fin 256 → Fin 1024)
    (hX : ∀ r c, X (ix3 0 r c) = x0 (ix3 0 (R r) c)) (hsh : ∀ c, sh (ix4 0 0 0 c) = x1 (ix4 0 0 3 c)) (hsc : ∀ c, sc (ix4 0 0 0 c) = x1 (ix4 0 0 4 c))
    (hg : ∀ c, gate (ix4 0 0 0 c) = x1 (ix4 0 0 5 c)) (hG : ∀ c, G (ix3 0 0 c) = x2 (ix3 0 2 c)) (hN : ∀ c, N (ix3 0 0 c) = x2 (ix3 0 3 c))
    (hW : ∀ c f, W (ix2 c f) = x3 (ix2 c (gateCol f))) (hU : ∀ c f, U (ix2 c f) = x3 (ix2 c (upCol f))) (hO : ∀ f e, O (ix2 f e) = x4 (ix2 f e))
    (r : Fin 256) (e : Fin 1024) : block sh sc gate X G W U O N (ix3 0 r e) = tile x0 x1 x2 x3 x4 (ix3 0 (R r) e) := by
  rw [block_at]
  simp only [hX, hsh, hsc, hg, hG, hN, hW, hU, hO]
  rfl

theorem block_def (sh sc gate : Vec Ideal S1x1x1x1024 .f32) (X : Vec Ideal S1x256x1024 .f32) (G : Vec Ideal S1x1x1024 .f32) (W U : Vec Ideal S1024x2816 .bf16)
    (O : Vec Ideal S2816x1024 .bf16) (N : Vec Ideal S1x1x1024 .f32) :
    k0_pay8 (k0_pay4 gate) (k0_pay5 X) (k0_pay6 sh sc X G) (k0_pay7 sh sc X G W) U O N = block sh sc gate X G W U O N := rfl

section
variable (x0 : Vec Ideal S1x1024x1024 .f32) (x1 : Vec Ideal S1x1x6x1024 .f32) (x2 : Vec Ideal S1x4x1024 .f32) (x3 : Vec Ideal S1024x5632 .bf16)
    (x4 : Vec Ideal S2816x1024 .bf16)

theorem mod_at (o : Fin 6) (h : ∀ a, (![0, 0, (o : ℕ), 0] : Fin 4 → ℕ) a + S1x1x1x1024.size a ≤ S1x1x6x1024.size a) (c : Fin 1024) :
    x1 ((Rect.unit (s := S1x1x6x1024) ![0, 0, (o : ℕ), 0] S1x1x1x1024.size h).idx (ix4 0 0 0 c)) = x1 (ix4 0 0 o c) :=
  congrArg x1 (funext fun d => Fin.ext (by
    match d with
    | ⟨0, _⟩ => rfl
    | ⟨1, _⟩ => rfl
    | ⟨2, _⟩ => show (o : ℕ) + 1 * 0 = o; omega
    | ⟨3, _⟩ => show 0 + 1 * (c : ℕ) = c; omega))
theorem norm_at (o : Fin 4) (h : ∀ a, (![0, (o : ℕ), 0] : Fin 3 → ℕ) a + S1x1x1024.size a ≤ S1x4x1024.size a) (c : Fin 1024) :
    x2 ((Rect.unit (s := S1x4x1024) ![0, (o : ℕ), 0] S1x1x1024.size h).idx (ix3 0 0 c)) = x2 (ix3 0 o c) :=
  congrArg x2 (funext fun d => Fin.ext (by
    match d with
    | ⟨0, _⟩ => rfl
    | ⟨1, _⟩ => show (o : ℕ) + 1 * 0 = o; omega
    | ⟨2, _⟩ => show 0 + 1 * (c : ℕ) = c; omega))
theorem gate_at (c : Fin 1024) (f : Fin 2816) : x3 (r0_5.idx (ix2 c f)) = x3 (ix2 c (gateCol f)) :=
  congrArg x3 (funext fun d => Fin.ext (by
    match d with
    | ⟨0, _⟩ => show 0 + 1 * (c : ℕ) = c; omega
    | ⟨1, _⟩ => show 0 + 1 * (f : ℕ) = f; omega))
theorem up_at (c : Fin 1024) (f : Fin 2816) : x3 (r0_6.idx (ix2 c f)) = x3 (ix2 c (upCol f)) :=
  congrArg x3 (funext fun d => Fin.ext (by
    match d with
    | ⟨0, _⟩ => show 0 + 1 * (c : ℕ) = c; omega
    | ⟨1, _⟩ => show 2816 + 1 * (f : ℕ) = 2816 + f; omega))
theorem down_at (f : Fin 2816) (e : Fin 1024) : x4 (r0_7.idx (ix2 f e)) = x4 (ix2 f e) :=
  congrArg x4 (funext fun d => Fin.ext (by
    match d with
    | ⟨0, _⟩ => show 0 + 1 * (f : ℕ) = f; omega
    | ⟨1, _⟩ => show 0 + 1 * (e : ℕ) = e; omega))

/-- A row of one of the four blocks of a tile. -/
def rowIn (k : Fin 4) (r : Fin 256) : Fin 1024 := ⟨256 * k + r, by omega⟩
theorem row_at (k : Fin 4) (o : ℕ) (ho : o = 256 * k) (h : ∀ a, (![0, o, 0] : Fin 3 → ℕ) a + S1x256x1024.size a ≤ S1x1024x1024.size a)
    (z : Fin 1) (r : Fin 256) (c : Fin 1024) :
    (Rect.unit (s := S1x1024x1024) ![0, o, 0] S1x256x1024.size h).idx (ix3 z r c) = ix3 0 (rowIn k r) c := by
  subst ho
  refine funext fun d => Fin.ext ?_
  match d with
  | ⟨0, _⟩ => show 0 + 1 * (z : ℕ) = 0; omega
  | ⟨1, _⟩ => show 256 * (k : ℕ) + 1 * (r : ℕ) = 256 * k + r; omega
  | ⟨2, _⟩ => show 0 + 1 * (c : ℕ) = c; omega

/-- One stored piece is a block of the tile. -/
theorem piece (k : Fin 4) (o : ℕ) (ho : o = 256 * k) (h : ∀ a, (![0, o, 0] : Fin 3 → ℕ) a + S1x256x1024.size a ≤ S1x1024x1024.size a)
    (p : Vec Ideal S1x256x1024 .f32)
    (hp : p = block (fun i => x1 (r0_0.idx i)) (fun i => x1 (r0_1.idx i)) (fun i => x1 (r0_2.idx i))
      (fun i => x0 ((Rect.unit (s := S1x1024x1024) ![0, o, 0] S1x256x1024.size h).idx i)) (fun i => x2 (r0_4.idx i))
      (fun i => x3 (r0_5.idx i)) (fun i => x3 (r0_6.idx i)) (fun i => x4 (r0_7.idx i)) (fun i => x2 (r0_8.idx i)))
    (i : S1x256x1024.Idx) :
    p i = tile x0 x1 x2 x3 x4 ((Rect.unit (s := S1x1024x1024) ![0, o, 0] S1x256x1024.size h).idx i) := by
  have hi : i = ix3 0 (i 1) (i 2) := by idx_ext
  exact (congrArg p hi).trans ((congrFun hp _).trans ((block_of x0 x1 x2 x3 x4 _ _ _ _ _ _ _ _ _ (rowIn k)
    (fun r c => congrArg x0 (row_at k o ho h 0 r c)) (mod_at x1 3 _) (mod_at x1 4 _) (mod_at x1 5 _) (norm_at x2 2 _) (norm_at x2 3 _)
    (gate_at x3) (up_at x3) (down_at x4) (i 1) (i 2)).trans (congrArg (tile x0 x1 x2 x3 x4)
    ((congrArg (Rect.unit (s := S1x1024x1024) ![0, o, 0] S1x256x1024.size h).idx hi).trans (row_at k o ho h 0 (i 1) (i 2))).symm)))

/-- Four stores that are blocks of one buffer and cover an index leave that buffer's value there. -/
theorem of_four (G : S1x1024x1024.Idx → Elt Ideal .f32) (a b c d : View.Piece (Elt Ideal) S1x1024x1024 .f32)
    (ha : ∀ x : a.1.shape.Idx, a.2 x = G (a.1.emb x)) (hb : ∀ x : b.1.shape.Idx, b.2 x = G (b.1.emb x))
    (hc : ∀ x : c.1.shape.Idx, c.2 x = G (c.1.emb x)) (hd : ∀ x : d.1.shape.Idx, d.2 x = G (d.1.emb x)) (y : S1x1024x1024.Idx)
    (hy : ∃ p ∈ [a, b, c, d], y ∈ p.1.set) : View.canon [a, b, c, d] y = G y :=
  View.canon_append_of_piecesOf G [] [a, b, c, d] ⟨ha, hb, hc, hd, trivial⟩ y hy

/-- A grid point leaves its tile. -/
theorem out_is (y : S1x1024x1024.Idx) : out0_5 x0 x1 x2 x3 x4 y = tile x0 x1 x2 x3 x4 y := by
  unfold_out out0_5
  refine of_four (tile x0 x1 x2 x3 x4) _ _ _ _ ?_ ?_ ?_ ?_ y (cover0_5 _ _ _ _ y)
  · exact piece x0 x1 x2 x3 x4 3 768 rfl _ _ (fourth _ _ _ _ _ _ _ _ _)
  · exact piece x0 x1 x2 x3 x4 2 512 rfl _ _ (third _ _ _ _ _ _ _ _ _)
  · exact piece x0 x1 x2 x3 x4 1 256 rfl _ _ (second _ _ _ _ _ _ _ _ _)
  · exact piece x0 x1 x2 x3 x4 0 0 rfl _ _ (block_def _ _ _ _ _ _ _ _ _)
end
end Cert.Ffn
end
-- ==== Proof.FfnRef.lean ====
module

public import proofs.«01_k».proof.Proof.FfnTile
public import proofs.«01_k».proof.Proof.Gen.Reference2Ideal.Run

/-! # The feed-forward part: the reference, read at an index -/

@[expose] public section

set_option maxRecDepth 16384

noncomputable section

namespace Cert.Ffn

open Idealize.ShloMosaic Idealize.ShloMosaic.TcCoe

/-- A column of one of the six parts of the modulation. -/
def modCol (k : Fin 6) (e : Fin 1024) : Fin 6144 := ⟨1024 * k + e, by omega⟩

open Cert.Reference2Ideal Cert.Reference2Ideal.Gen

/-- The normalised and modulated row of a batch's row. -/
def hiddenOf (x : Spec.Rows) (mod : FVec Ideal S2x2x6144 .f32) (ng : FVec Ideal S2x4x1024 .f32) (b : Fin 2) (s : Fin 8192) : Fin 1024 → EReal :=
  hidden (fun c => x (ix3 b s c)) (fun c => mod (ix3 1 b (modCol 3 c))) (fun c => mod (ix3 1 b (modCol 4 c))) (fun c => ng (ix3 1 2 c))

/-- The feed-forward part of a batch's row. -/
def swigluOf (x : Spec.Rows) (mod : FVec Ideal S2x2x6144 .f32) (ng : FVec Ideal S2x4x1024 .f32) (wi : FVec Ideal S2x1024x5632 .f32)
    (wo : FVec Ideal S2x2816x1024 .f32) (b : Fin 2) (s : Fin 8192) : Fin 1024 → EReal :=
  swiglu (hiddenOf x mod ng b s) (fun c f => wi (ix3 1 c (gateCol f))) (fun c f => wi (ix3 1 c (upCol f))) (fun f e => wo (ix3 1 f e))

/-- The layer's result. -/
def result (x : Spec.Rows) (mod : FVec Ideal S2x2x6144 .f32) (ng : FVec Ideal S2x4x1024 .f32) (wi : FVec Ideal S2x1024x5632 .f32)
    (wo : FVec Ideal S2x2816x1024 .f32) : Spec.Rows := fun j =>
  Att.gated (x (ix3 (j 0) (j 1) (j 2))) (mod (ix3 1 (j 0) (modCol 5 (j 2)))) (ng (ix3 1 3 (j 2))) (swigluOf x mod ng wi wo (j 0) (j 1)) (j 2)

/-- The reference's normalised and modulated rows. -/
def refHidden (x : Spec.Rows) (mod : FVec Ideal S2x2x6144 .f32) (ng : FVec Ideal S2x4x1024 .f32) : FVec Ideal S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast _ (extractStridedSlice S1x1x1024 ![1, 2, 0] ng slices_S2x4x1024_S1x1x1024_1_2_0) shapeCasts_S1x1x1024_S1024))))
    (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] (shapeCast S2x6144 (extractStridedSlice S1x2x6144 ![1, 0, 0] mod slices_S2x2x6144_S1x2x6144_1_0_0) shapeCasts_S1x2x6144_S2x6144) slices_S2x6144_S2x1024_0_4096)))))
    (broadcastInDim S2x8192x1024 ![0, 1, 2] bcast_S2x1x1024_S2x8192x1024_0_1_2 (broadcastInDim S2x1x1024 ![0, 2] bcast_S2x1024_S2x1x1024_0_2 (extractStridedSlice S2x1024 ![0, 3072] (shapeCast S2x6144 (extractStridedSlice S1x2x6144 ![1, 0, 0] mod slices_S2x2x6144_S1x2x6144_1_0_0) shapeCasts_S1x2x6144_S2x6144) slices_S2x6144_S2x1024_0_3072)))

/-- The reference's rows through the first layer of weights. -/
def refWide (h : FVec Ideal S2x8192x1024 .f32) (wi : FVec Ideal S2x1024x5632 .f32) : FVec Ideal S2x8192x5632 .f32 :=
  Host.dotGeneral dot_S2x8192x1024_S1024x5632_S2x8192x5632_2_0_01_1_n_n none h (shapeCast S1024x5632 (extractStridedSlice S1x1024x5632 ![1, 0, 0] wi slices_S2x1024x5632_S1x1024x5632_1_0_0) shapeCasts_S1x1024x5632_S1024x5632)

/-- The reference's gated product of the two halves. -/
def refGated (g : FVec Ideal S2x8192x5632 .f32) : FVec Ideal S2x8192x2816 .f32 :=
  mulf (mulf (extractStridedSlice S2x8192x2816 ![0, 0, 0] g slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] g slices_S2x8192x5632_S2x8192x2816_0_0_0)))))) (extractStridedSlice S2x8192x2816 ![0, 0, 2816] g slices_S2x8192x5632_S2x8192x2816_0_0_2816)

/-- The reference's product with the second layer of weights. -/
def refNarrow (p : FVec Ideal S2x8192x2816 .f32) (wo : FVec Ideal S2x2816x1024 .f32) : FVec Ideal S2x8192x1024 .f32 :=
  Host.dotGeneral dot_S2x8192x2816_S2816x1024_S2x8192x1024_2_0_01_1_n_n none p (shapeCast S2816x1024 (extractStridedSlice S1x2816x1024 ![1, 0, 0] wo slices_S2x2816x1024_S1x2816x1024_1_0_0) shapeCasts_S1x2816x1024_S2816x1024)

/-- The reference's last step. -/
def refLast (x y : FVec Ideal S2x8192x1024 .f32) (mod : FVec Ideal S2x2x6144 .f32) (ng : FVec Ideal S2x4x1024 .f32) : FVec Ideal S2x8192x1024 .f32 :=
  addf x (mulf (broadcastInDim S2x8192x1024 ![0, 1, 2] bcast_S2x1x1024_S2x8192x1024_0_1_2 (broadcastInDim S2x1x1024 ![0, 2] bcast_S2x1024_S2x1x1024_0_2 (extractStridedSlice S2x1024 ![0, 5120] (shapeCast S2x6144 (extractStridedSlice S1x2x6144 ![1, 0, 0] mod slices_S2x2x6144_S1x2x6144_1_0_0) shapeCasts_S1x2x6144_S2x6144) slices_S2x6144_S2x1024_0_5120)))
    (mulf (mulf y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf y y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 (shapeCast _ (extractStridedSlice S1x1x1024 ![1, 3, 0] ng slices_S2x4x1024_S1x1x1024_1_3_0) shapeCasts_S1x1x1024_S1024)))))

theorem refHidden_at (x : Spec.Rows) (mod : FVec Ideal S2x2x6144 .f32) (ng : FVec Ideal S2x4x1024 .f32) (b : Fin 2) (s : Fin 8192) (c : Fin 1024) :
    refHidden x mod ng (ix3 b s c) = hiddenOf x mod ng b s c := by
  pointwise [refHidden]
  unfold hiddenOf hidden
  rw [mul_assoc]
  rfl

theorem refWide_at (h : FVec Ideal S2x8192x1024 .f32) (wi : FVec Ideal S2x1024x5632 .f32) (b : Fin 2) (s : Fin 8192) (f : Fin 5632) :
    refWide h wi (ix3 b s f) = ∑ c : Fin 1024, h (ix3 b s c) * wi (ix3 1 c f) := by
  pointwise [refWide]

theorem refGated_at (g : FVec Ideal S2x8192x5632 .f32) (b : Fin 2) (s : Fin 8192) (f : Fin 2816) :
    refGated g (ix3 b s f) = g (ix3 b s (gateCol f)) * Ideal.logistic (g (ix3 b s (gateCol f))) * g (ix3 b s (upCol f)) := by
  pointwise [refGated]
  rfl

theorem refNarrow_at (p : FVec Ideal S2x8192x2816 .f32) (wo : FVec Ideal S2x2816x1024 .f32) (b : Fin 2) (s : Fin 8192) (e : Fin 1024) :
    refNarrow p wo (ix3 b s e) = ∑ f : Fin 2816, p (ix3 b s f) * wo (ix3 1 f e) := by
  pointwise [refNarrow]

theorem refLast_at (x y : FVec Ideal S2x8192x1024 .f32) (mod : FVec Ideal S2x2x6144 .f32) (ng : FVec Ideal S2x4x1024 .f32) (b : Fin 2) (s : Fin 8192) (e : Fin 1024) :
    refLast x y mod ng (ix3 b s e) = Att.gated (x (ix3 b s e)) (mod (ix3 1 b (modCol 5 e))) (ng (ix3 1 3 e)) (fun c => y (ix3 b s c)) e := by
  pointwise [refLast]
  rfl

/-- The reference's steps together are the layer's result. -/
theorem ref_at (x : Spec.Rows) (mod : FVec Ideal S2x2x6144 .f32) (ng : FVec Ideal S2x4x1024 .f32) (wi : FVec Ideal S2x1024x5632 .f32)
    (wo : FVec Ideal S2x2816x1024 .f32) (b : Fin 2) (s : Fin 8192) (e : Fin 1024) :
    refLast x (refNarrow (refGated (refWide (refHidden x mod ng) wi)) wo) mod ng (ix3 b s e) = result x mod ng wi wo (ix3 b s e) := by
  rw [refLast_at]
  simp only [refNarrow_at, refGated_at, refWide_at, refHidden_at]
  rfl

theorem ref_result (x : Spec.Rows) (mod : FVec Ideal S2x2x6144 .f32) (ng : FVec Ideal S2x4x1024 .f32) (wi : FVec Ideal S2x1024x5632 .f32)
    (wo : FVec Ideal S2x2816x1024 .f32) :
    refLast x (refNarrow (refGated (refWide (refHidden x mod ng) wi)) wo) mod ng = result x mod ng wi wo := by
  funext j
  have hj : j = (ix3 (j 0) (j 1) (j 2) : S2x8192x1024.Idx) := by idx_ext
  exact (congrArg (refLast x (refNarrow (refGated (refWide (refHidden x mod ng) wi)) wo) mod ng) hj).trans
    ((ref_at x mod ng wi wo (j 0) (j 1) (j 2)).trans (congrArg (result x mod ng wi wo) hj.symm))

variable (m : (ℓ : Loc nD τ sig) → Buf (Elt Ideal) ℓ) (c : Dev nD)

/-- The reference's result is its steps. -/
theorem ref_steps : Value.res_main_v59 m c = refLast (m ((c.tc : Thread nD τ).loc main_arg0)) (refNarrow (refGated (refWide (refHidden
    (m ((c.tc : Thread nD τ).loc main_arg0)) (m ((c.tc : Thread nD τ).loc main_arg1)) (m ((c.tc : Thread nD τ).loc main_arg2)))
    (m ((c.tc : Thread nD τ).loc main_arg3)))) (m ((c.tc : Thread nD τ).loc main_arg4))) (m ((c.tc : Thread nD τ).loc main_arg1)) (m ((c.tc : Thread nD τ).loc main_arg2)) := rfl

theorem ref_is : Value.res_main_v59 m c = result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) :=
  (ref_steps m c).trans (ref_result _ _ _ _ _)
end Cert.Ffn
end
-- ==== Proof.FfnEnd.lean ====
module

public import proofs.«01_k».proof.Defs
public import proofs.«01_k».proof.Proof.FfnRef

/-! # The feed-forward part: the kernel's blocks, its result, and the reference's -/

@[expose] public section

set_option maxRecDepth 16384

noncomputable section

namespace Cert.Ffn

open Idealize.ShloMosaic Idealize.ShloMosaic.TcCoe
open Idealize.ShloMosaic.Pipeline (Dat)

section
open Cert.Kernel2Ideal Cert.Kernel2Ideal.Gen

theorem idx : ∀ t : Fin cfg0.N,
    win0_0.index t = ![(grid0.coords t 0).val, (grid0.coords t 1).val, 0] ∧ win0_1.index t = ![1, (grid0.coords t 0).val, 0, 0] ∧
    win0_2.index t = ![1, 0, 0] ∧ win0_3.index t = ![0, 0] ∧ win0_4.index t = ![0, 0] ∧
    win0_5.index t = ![(grid0.coords t 0).val, (grid0.coords t 1).val, 0] :=
  (by decide +kernel : ∀ t : Fin grid0.N, _)

/-- The batch and the tile of a grid point. -/
theorem point_lt (t : Fin cfg0.N) : (grid0.coords t 0).val < 2 ∧ (grid0.coords t 1).val < 8 := ⟨(grid0.coords t 0).isLt, (grid0.coords t 1).isLt⟩

def batch (t : Fin cfg0.N) : Fin 2 := ⟨(grid0.coords t 0).val, (point_lt t).1⟩
def tile_of (t : Fin cfg0.N) : Fin 8 := ⟨(grid0.coords t 1).val, (point_lt t).2⟩

variable (m : (ℓ : Loc nD τ sig) → Buf (Elt Ideal) ℓ) (c : Dev nD)

/-- The layers' weights and the modulation's rows as the kernel takes them. -/
def wide (w : FVec Ideal S2x1024x5632 .f32) : FVec Ideal S1024x5632 .bf16 :=
  truncf .bf16 (shapeCast S1024x5632 (extractStridedSlice S1x1024x5632 ![1, 0, 0] w slices_S2x1024x5632_S1x1024x5632_1_0_0) shapeCasts_S1x1024x5632_S1024x5632) bitsLt_bf16_f32
theorem wide_at (w : FVec Ideal S2x1024x5632 .f32) (a : Fin 1024) (f : Fin 5632) : wide w (ix2 a f) = w (ix3 1 a f) := by
  pointwise [wide]
def narrow (w : FVec Ideal S2x2816x1024 .f32) : FVec Ideal S2816x1024 .bf16 :=
  truncf .bf16 (shapeCast S2816x1024 (extractStridedSlice S1x2816x1024 ![1, 0, 0] w slices_S2x2816x1024_S1x2816x1024_1_0_0) shapeCasts_S1x2816x1024_S2816x1024) bitsLt_bf16_f32
theorem narrow_at (w : FVec Ideal S2x2816x1024 .f32) (f : Fin 2816) (e : Fin 1024) : narrow w (ix2 f e) = w (ix3 1 f e) := by
  pointwise [narrow]
def parts (x : FVec Ideal S2x2x6144 .f32) : FVec Ideal S2x2x6x1024 .f32 := shapeCast S2x2x6x1024 x shapeCasts_S2x2x6144_S2x2x6x1024
theorem parts_at (x : FVec Ideal S2x2x6144 .f32) (l b : Fin 2) (k : Fin 6) (e : Fin 1024) : parts x (ix4 l b k e) = x (ix3 l b (modCol k e)) := by
  pointwise [parts, modCol]
  exact congrArg (fun n => x (ix3 l b n)) (Fin.ext (by show (k : ℕ) * 1024 + e = 1024 * k + e; omega))

theorem read_mod : V m c main_v0 = parts (m ((c : Thread nD τ).loc main_arg1)) := by
  entry_read; rfl
theorem read_wide : V m c main_v3 = wide (m ((c : Thread nD τ).loc main_arg3)) := by
  entry_read; rfl
theorem read_narrow : V m c main_v6 = narrow (m ((c : Thread nD τ).loc main_arg4)) := by
  entry_read; rfl

section
variable (t : Fin cfg0.N)
theorem place_0 (X : FVec Ideal S2x8192x1024 .f32) (r e : Fin 1024) : X (((cfg0.win 0).blk t).view.emb (ix3 0 r e)) = X (ix3 (batch t) (Spec.rowOf (tile_of t) r) e) := by
  blk_ext [idx t, batch, tile_of, Spec.rowOf]
theorem place_1 (X : FVec Ideal S2x2x6x1024 .f32) (x : Fin 6) (e : Fin 1024) : X (((cfg0.win 1).blk t).view.emb (ix4 0 0 x e)) = X (ix4 1 (batch t) x e) := by
  blk_ext [idx t, batch]
theorem place_2 (X : FVec Ideal S2x4x1024 .f32) (x : Fin 4) (e : Fin 1024) : X (((cfg0.win 2).blk t).view.emb (ix3 0 x e)) = X (ix3 1 x e) := by
  blk_ext [idx t]
theorem place_3 (X : FVec Ideal S1024x5632 .bf16) (a : Fin 1024) (b : Fin 5632) : X (((cfg0.win 3).blk t).view.emb (ix2 a b)) = X (ix2 a b) := by
  blk_ext [idx t]
theorem place_4 (X : FVec Ideal S2816x1024 .bf16) (a : Fin 2816) (b : Fin 1024) : X (((cfg0.win 4).blk t).view.emb (ix2 a b)) = X (ix2 a b) := by
  blk_ext [idx t]
theorem place_5 (X : FVec Ideal S2x8192x1024 .f32) (r e : Fin 1024) : X (((cfg0.win 5).blk t).view.emb (ix3 0 r e)) = X (ix3 (batch t) (Spec.rowOf (tile_of t) r) e) := by
  blk_ext [idx t, batch, tile_of, Spec.rowOf]

theorem in_x (r e : Fin 1024) : iblk m c 0 t (ix3 0 r e) = m ((c : Thread nD τ).loc main_arg0) (ix3 (batch t) (Spec.rowOf (tile_of t) r) e) := by
  blk_simp [iblk]
  exact place_0 t _ r e
theorem in_mod (x : Fin 6) (e : Fin 1024) : iblk m c 1 t (ix4 0 0 x e) = parts (m ((c : Thread nD τ).loc main_arg1)) (ix4 1 (batch t) x e) := by
  blk_simp [iblk]
  exact (place_1 t _ x e).trans (congrFun (read_mod m c) _)
theorem in_norm (x : Fin 4) (e : Fin 1024) : iblk m c 2 t (ix3 0 x e) = m ((c : Thread nD τ).loc main_arg2) (ix3 1 x e) := by
  blk_simp [iblk]
  exact place_2 t _ x e
theorem in_wide (a : Fin 1024) (f : Fin 5632) : iblk m c 3 t (ix2 a f) = wide (m ((c : Thread nD τ).loc main_arg3)) (ix2 a f) := by
  blk_simp [iblk]
  exact (place_3 t _ a f).trans (congrFun (read_wide m c) _)
theorem in_narrow (f : Fin 2816) (e : Fin 1024) : iblk m c 4 t (ix2 f e) = narrow (m ((c : Thread nD τ).loc main_arg4)) (ix2 f e) := by
  blk_simp [iblk]
  exact (place_4 t _ f e).trans (congrFun (read_narrow m c) _)
end

/-- A tile whose blocks hold the arguments' entries holds the result's. -/
theorem tile_result (x0 : Vec Ideal S1x1024x1024 .f32) (x1 : Vec Ideal S1x1x6x1024 .f32) (x2 : Vec Ideal S1x4x1024 .f32) (x3 : Vec Ideal S1024x5632 .bf16)
    (x4 : Vec Ideal S2816x1024 .bf16) (x : Spec.Rows) (mod : FVec Ideal S2x2x6144 .f32) (ng : FVec Ideal S2x4x1024 .f32) (wi : FVec Ideal S2x1024x5632 .f32)
    (wo : FVec Ideal S2x2816x1024 .f32) (b : Fin 2) (i : Fin 8)
    (h0 : ∀ r e : Fin 1024, x0 (ix3 0 r e) = x (ix3 b (Spec.rowOf i r) e)) (h1 : ∀ (k : Fin 6) (e : Fin 1024), x1 (ix4 0 0 k e) = mod (ix3 1 b (modCol k e)))
    (h2 : ∀ (k : Fin 4) (e : Fin 1024), x2 (ix3 0 k e) = ng (ix3 1 k e)) (h3 : ∀ (a : Fin 1024) (f : Fin 5632), x3 (ix2 a f) = wi (ix3 1 a f))
    (h4 : ∀ (f : Fin 2816) (e : Fin 1024), x4 (ix2 f e) = wo (ix3 1 f e)) (r e : Fin 1024) :
    tile x0 x1 x2 x3 x4 (ix3 0 r e) = result x mod ng wi wo (ix3 b (Spec.rowOf i r) e) := by
  show Att.gated (x0 (ix3 0 r e)) (x1 (ix4 0 0 5 e)) (x2 (ix3 0 3 e))
    (swiglu (hidden (fun c => x0 (ix3 0 r c)) (fun c => x1 (ix4 0 0 3 c)) (fun c => x1 (ix4 0 0 4 c)) (fun c => x2 (ix3 0 2 c)))
      (fun c f => x3 (ix2 c (gateCol f))) (fun c f => x3 (ix2 c (upCol f))) (fun f e => x4 (ix2 f e))) e = _
  simp only [h0, h1, h2, h3, h4]
  rfl

variable (t : Fin cfg0.N)
theorem final : (dats m 0 c).arrAt 5 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  have hy : y = (ix3 0 (y 1) (y 2) : S1x1024x1024.Idx) := by idx_ext
  rw [hy]
  exact (out_is _ _ _ _ _ _).trans ((tile_result (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (batch t) (tile_of t)
    (in_x m c t) (fun k e => (in_mod m c t k e).trans (parts_at _ 1 (batch t) k e)) (in_norm m c t)
    (fun a f => (in_wide m c t a f).trans (wide_at _ a f)) (fun f e => (in_narrow m c t f e).trans (narrow_at _ f e)) (y 1) (y 2)).trans
    (place_5 t _ (y 1) (y 2)).symm)
end

/-- The kernel's run and the reference's end at one result. -/
theorem same : Cert.algebraic_Kernel2Ideal_Reference2Ideal := by
  intro m g m' g' _ hagree
  refine ⟨fun c => result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4)), ?_, ?_⟩
  · exact (θ_run Cert.Kernel2Ideal.defs _ _).mono (fun r h c => ⟨(h c).1.trans (final m c), (h c).2⟩) (Cert.Kernel2Ideal.Value.run_blocks m g)
  · refine (θ_run Cert.Reference2Ideal.defs _ _).mono (fun r h c => ⟨(h c).1.trans ((ref_is m' c).trans ?_), (h c).2⟩) (Cert.Reference2Ideal.Value.run m' g')
    obtain ⟨e0, e1, e2, e3, e4⟩ := hagree c
    rw [e0, e1, e2, e3, e4]

theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

end Cert.Ffn
end
-- ==== Proof.Proj.lean ====
module

public import proofs.«01_k».proof.Proof.FfnRef
public import proofs.«01_k».proof.Proof.Gen.Kernel3Ideal.Value

/-! # The projections: a block of rows of the kernel, read at an index -/

@[expose] public section

set_option maxRecDepth 16384

noncomputable section

namespace Cert.Proj

open Idealize.ShloMosaic Idealize.ShloMosaic.TcCoe

/-- The two halves of the columns of the keys' and values' weights, and of their modulation. -/
def low (e : Fin 1024) : Fin 2048 := ⟨e, by omega⟩
def high (e : Fin 1024) : Fin 2048 := ⟨1024 + e, by omega⟩

open Cert.Kernel3Ideal Cert.Kernel3Ideal.Gen

theorem unit_at (X : Vec Ideal S1x512x1024 .f32) (r : Fin 512) (c : Fin 1024) :
    k0_pay5 X (ix2 r c) = X (ix3 0 r c) * Ideal.rsqrt (Ideal.div (∑ c : Fin 1024, X (ix3 0 r c) * X (ix3 0 r c)) (Ideal.ofBits .f32 0x44800000#32) + Ideal.ofBits .f32 0x358637BD#32) := by
  pointwise [k0_pay5]

theorem hidden_at (X : Vec Ideal S1x512x1024 .f32) (G : Vec Ideal S1x1024 .f32) (sc sh : Vec Ideal S1x1x1x1024 .f32) (r : Fin 512) (c : Fin 1024) :
    k0_pay6 X G sc sh (ix2 r c) = Ffn.hidden (fun c => X (ix3 0 r c)) (fun c => sh (ix4 0 0 0 c)) (fun c => sc (ix4 0 0 0 c)) (fun c => G (ix2 0 c)) c := by
  unfold k0_pay6
  have h := unit_at X r c
  generalize k0_pay5 X = U at h ⊢
  pointwise []
  rw [h]
  rfl

theorem key_at (X : Vec Ideal S1x512x1024 .f32) (G : Vec Ideal S1x1024 .f32) (sc sh : Vec Ideal S1x1x1x1024 .f32) (W : Vec Ideal S1024x1024 .bf16)
    (r : Fin 512) (e : Fin 1024) : k0_pay7 X G sc sh W (ix3 0 r e) = ∑ c : Fin 1024, k0_pay6 X G sc sh (ix2 r c) * W (ix2 c e) := by
  unfold k0_pay7
  generalize k0_pay6 X G sc sh = H
  pointwise []

theorem value_at (H : FVec Ideal S512x1024 .bf16) (W : Vec Ideal S1024x1024 .bf16) (r : Fin 512) (e : Fin 1024) :
    k0_pay3 H W (ix3 0 r e) = ∑ c : Fin 1024, H (ix2 r c) * W (ix2 c e) := by
  pointwise [k0_pay3]

theorem query_at (U : FVec Ideal S512x1024 .f32) (G : Vec Ideal S1x1x1024 .f32) (sc sh : Vec Ideal S1x1x1x1024 .f32) (W : Vec Ideal S1024x1024 .bf16)
    (r : Fin 512) (e : Fin 1024) : k0_pay4 U G sc sh W (ix3 0 r e) =
      (∑ c : Fin 1024, (U (ix2 r c) * (G (ix3 0 0 c) * (1 + sc (ix4 0 0 0 c))) + sh (ix4 0 0 0 c)) * W (ix2 c e)) * Ideal.ofBits .f32 0x3E38AA3B#32 := by
  pointwise [k0_pay4]

theorem zero_key (j : S1x512x1024.Idx) : k0_pay1 (F := Ideal) j = 0 := by
  pointwise [k0_pay1]
theorem zero_value (j : S1x512x1024.Idx) : k0_pay2 (F := Ideal) j = 0 := by
  pointwise [k0_pay2]
end Cert.Proj
end
-- ==== Proof.ProjRef.lean ====
module

public import proofs.«01_k».proof.Defs
public import proofs.«01_k».proof.Proof.Proj
public import proofs.«01_k».proof.Proof.Gen.Reference3Ideal.Run

/-! # The projections: the reference, read at an index -/

@[expose] public section

set_option maxRecDepth 16384

noncomputable section

namespace Cert.Proj

open Idealize.ShloMosaic Idealize.ShloMosaic.TcCoe
open Cert.Reference3Ideal Cert.Reference3Ideal.Gen

/-- A row as the keys and values see it. -/
def sharedOf (x : Spec.Rows) (kvmod : FVec Ideal S2x2048 .f32) (kvg : FVec Ideal S1024 .f32) (b : Fin 2) (s : Fin 8192) : Fin 1024 → EReal :=
  Ffn.hidden (fun c => x (ix3 b s c)) (fun c => kvmod (ix2 b (low c))) (fun c => kvmod (ix2 b (high c))) (fun c => kvg (ix1 c))

/-- A row as the queries see it. -/
def ownOf (x : Spec.Rows) (mod : FVec Ideal S2x2x6144 .f32) (ng : FVec Ideal S2x4x1024 .f32) (b : Fin 2) (s : Fin 8192) : Fin 1024 → EReal :=
  Ffn.hidden (fun c => x (ix3 b s c)) (fun c => mod (ix3 1 b (Ffn.modCol 0 c))) (fun c => mod (ix3 1 b (Ffn.modCol 1 c))) (fun c => ng (ix3 1 0 c))

/-- The keys, or the values: 512 rows of zeros, then a row's product with one half of the weights' columns. -/
def padded (x : Spec.Rows) (kvmod : FVec Ideal S2x2048 .f32) (kvg : FVec Ideal S1024 .f32) (w : FVec Ideal S1024x2048 .f32) (col : Fin 1024 → Fin 2048)
    (b : Fin 2) (r : Fin 8704) (e : Fin 1024) : EReal :=
  if h : (r : ℕ) < 512 then 0 else ∑ c : Fin 1024, sharedOf x kvmod kvg b ⟨r - 512, by omega⟩ c * w (ix2 c (col e))

/-- The queries: a row's product with their weights, scaled. -/
def scaled (x : Spec.Rows) (mod : FVec Ideal S2x2x6144 .f32) (ng : FVec Ideal S2x4x1024 .f32) (w : FVec Ideal S1x1024x1024 .f32)
    (b : Fin 2) (s : Fin 8192) (e : Fin 1024) : EReal :=
  (∑ c : Fin 1024, ownOf x mod ng b s c * w (ix3 0 c e)) * Ideal.ofBits .f32 0x3E38AA3B#32

def keys (x : Spec.Rows) (kvmod : FVec Ideal S2x2048 .f32) (kvg : FVec Ideal S1024 .f32) (w : FVec Ideal S1024x2048 .f32) : FVec Ideal S2x8704x1024 .bf16 :=
  fun j => padded x kvmod kvg w low (j 0) (j 1) (j 2)
def values (x : Spec.Rows) (kvmod : FVec Ideal S2x2048 .f32) (kvg : FVec Ideal S1024 .f32) (w : FVec Ideal S1024x2048 .f32) : FVec Ideal S2x8704x1024 .bf16 :=
  fun j => padded x kvmod kvg w high (j 0) (j 1) (j 2)
def queries (x : Spec.Rows) (mod : FVec Ideal S2x2x6144 .f32) (ng : FVec Ideal S2x4x1024 .f32) (w : FVec Ideal S1x1024x1024 .f32) : FVec Ideal S2x8192x1024 .bf16 :=
  fun j => scaled x mod ng w (j 0) (j 1) (j 2)

/-- The reference's normalised rows. -/
def refUnit (x : Spec.Rows) : FVec Ideal S2x8192x1024 .f32 :=
  mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))

/-- The reference's modulation of normalised rows. -/
def refMod (u : FVec Ideal S2x8192x1024 .f32) (g : FVec Ideal S1024 .f32) (sh sc : FVec Ideal S2x1024 .f32) : FVec Ideal S2x8192x1024 .f32 :=
  addf (mulf (mulf u (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 sc))))
    (broadcastInDim S2x8192x1024 ![0, 1, 2] bcast_S2x1x1024_S2x8192x1024_0_1_2 (broadcastInDim S2x1x1024 ![0, 2] bcast_S2x1024_S2x1x1024_0_2 sh))

/-- The reference's rows for the keys and values. -/
def refShared (x : Spec.Rows) (kvmod : FVec Ideal S2x2048 .f32) (kvg : FVec Ideal S1024 .f32) : FVec Ideal S2x8192x1024 .f32 :=
  refMod (refUnit x) kvg (extractStridedSlice S2x1024 ![0, 0] kvmod slices_S2x2048_S2x1024_0_0) (extractStridedSlice S2x1024 ![0, 1024] kvmod slices_S2x2048_S2x1024_0_1024)

/-- The reference's rows for the queries. -/
def refOwn (x : Spec.Rows) (mod : FVec Ideal S2x2x6144 .f32) (ng : FVec Ideal S2x4x1024 .f32) : FVec Ideal S2x8192x1024 .f32 :=
  refMod (refUnit x) (shapeCast _ (extractStridedSlice S1x1x1024 ![1, 0, 0] ng slices_S2x4x1024_S1x1x1024_1_0_0) shapeCasts_S1x1x1024_S1024)
    (extractStridedSlice S2x1024 ![0, 0] (shapeCast S2x6144 (extractStridedSlice S1x2x6144 ![1, 0, 0] mod slices_S2x2x6144_S1x2x6144_1_0_0) shapeCasts_S1x2x6144_S2x6144) slices_S2x6144_S2x1024_0_0)
    (extractStridedSlice S2x1024 ![0, 1024] (shapeCast S2x6144 (extractStridedSlice S1x2x6144 ![1, 0, 0] mod slices_S2x2x6144_S1x2x6144_1_0_0) shapeCasts_S1x2x6144_S2x6144) slices_S2x6144_S2x1024_0_1024)

/-- The reference's product for the keys and values. -/
def refWide (h : FVec Ideal S2x8192x1024 .f32) (w : FVec Ideal S1024x2048 .f32) : FVec Ideal S2x8192x2048 .f32 :=
  Host.dotGeneral dot_S2x8192x1024_S1024x2048_S2x8192x2048_2_0_01_1_n_n none h w

/-- The reference's zero rows before the others. -/
def refPad (x : FVec Ideal S2x8192x1024 .f32) : FVec Ideal S2x8704x1024 .bf16 :=
  truncf .bf16 (pad S2x8704x1024 ![0, 512, 0] ![0, 0, 0] ![0, 0, 0] x (sitofp .f32 (constantI S_ 32 0#32)) pads_S2x8192x1024_S2x8704x1024_000_51200_000 h_S_) bitsLt_bf16_f32

def refKeys (g : FVec Ideal S2x8192x2048 .f32) : FVec Ideal S2x8704x1024 .bf16 :=
  refPad (extractStridedSlice S2x8192x1024 ![0, 0, 0] g slices_S2x8192x2048_S2x8192x1024_0_0_0)
def refValues (g : FVec Ideal S2x8192x2048 .f32) : FVec Ideal S2x8704x1024 .bf16 :=
  refPad (extractStridedSlice S2x8192x1024 ![0, 0, 1024] g slices_S2x8192x2048_S2x8192x1024_0_0_1024)
def refQueries (h : FVec Ideal S2x8192x1024 .f32) (w : FVec Ideal S1x1024x1024 .f32) : FVec Ideal S2x8192x1024 .bf16 :=
  truncf .bf16 (mulf (Host.dotGeneral dot_S2x8192x1024_S1024x1024_S2x8192x1024_2_0_01_1_n_n none h (shapeCast S1024x1024 w shapeCasts_S1x1024x1024_S1024x1024)) (broadcastInDim S2x8192x1024 ![] bcast_S_S2x8192x1024 (constant S_ .f32 0x3E38AA3B#32))) bitsLt_bf16_f32

theorem refUnit_at (x : Spec.Rows) (b : Fin 2) (s : Fin 8192) (c : Fin 1024) : refUnit x (ix3 b s c) =
    x (ix3 b s c) * Ideal.rsqrt (Ideal.div (∑ c : Fin 1024, x (ix3 b s c) * x (ix3 b s c)) (Ideal.ofBits .f32 0x44800000#32) + Ideal.ofBits .f32 0x358637BD#32) := by
  pointwise [refUnit]

theorem refMod_at (u : FVec Ideal S2x8192x1024 .f32) (g : FVec Ideal S1024 .f32) (sh sc : FVec Ideal S2x1024 .f32) (b : Fin 2) (s : Fin 8192) (c : Fin 1024) :
    refMod u g sh sc (ix3 b s c) = u (ix3 b s c) * g (ix1 c) * (1 + sc (ix2 b c)) + sh (ix2 b c) := by
  pointwise [refMod]

theorem refShared_at (x : Spec.Rows) (kvmod : FVec Ideal S2x2048 .f32) (kvg : FVec Ideal S1024 .f32) (b : Fin 2) (s : Fin 8192) (c : Fin 1024) :
    refShared x kvmod kvg (ix3 b s c) = sharedOf x kvmod kvg b s c := by
  unfold refShared
  rw [refMod_at, refUnit_at]
  pointwise []
  unfold sharedOf Ffn.hidden
  rw [mul_assoc]
  rfl

theorem refOwn_at (x : Spec.Rows) (mod : FVec Ideal S2x2x6144 .f32) (ng : FVec Ideal S2x4x1024 .f32) (b : Fin 2) (s : Fin 8192) (c : Fin 1024) :
    refOwn x mod ng (ix3 b s c) = ownOf x mod ng b s c := by
  unfold refOwn
  rw [refMod_at, refUnit_at]
  pointwise []
  have h0 : Ffn.modCol 0 c = ⟨c, by omega⟩ := Fin.ext (by show 1024 * 0 + (c : ℕ) = c; omega)
  have h1 : Ffn.modCol 1 c = ⟨1024 + c, by omega⟩ := Fin.ext (by show 1024 * 1 + (c : ℕ) = 1024 + c; omega)
  unfold ownOf Ffn.hidden
  dsimp only
  rw [mul_assoc, h0, h1]

theorem refWide_at (h : FVec Ideal S2x8192x1024 .f32) (w : FVec Ideal S1024x2048 .f32) (b : Fin 2) (s : Fin 8192) (f : Fin 2048) :
    refWide h w (ix3 b s f) = ∑ c : Fin 1024, h (ix3 b s c) * w (ix2 c f) := by
  pointwise [refWide]

theorem refPad_at (x : FVec Ideal S2x8192x1024 .f32) (b : Fin 2) (r : Fin 8704) (e : Fin 1024) :
    refPad x (ix3 b r e) = if h : (r : ℕ) < 512 then 0 else x (ix3 b ⟨r - 512, by omega⟩ e) := by
  pointwise [refPad]
  by_cases h : (r : ℕ) < 512
  · rw [dif_pos h, dif_neg (by omega)]
    show ((_ : ℝ) : EReal) = 0
    simp
  · rw [dif_neg h, dif_pos (by omega)]
    blk_ext

theorem refKeys_at (g : FVec Ideal S2x8192x2048 .f32) (b : Fin 2) (r : Fin 8704) (e : Fin 1024) :
    refKeys g (ix3 b r e) = if h : (r : ℕ) < 512 then 0 else g (ix3 b ⟨r - 512, by omega⟩ (low e)) := by
  unfold refKeys
  rw [refPad_at]
  by_cases h : (r : ℕ) < 512
  · rw [dif_pos h, dif_pos h]
  · rw [dif_neg h, dif_neg h]
    pointwise []
    rfl

theorem refValues_at (g : FVec Ideal S2x8192x2048 .f32) (b : Fin 2) (r : Fin 8704) (e : Fin 1024) :
    refValues g (ix3 b r e) = if h : (r : ℕ) < 512 then 0 else g (ix3 b ⟨r - 512, by omega⟩ (high e)) := by
  unfold refValues
  rw [refPad_at]
  by_cases h : (r : ℕ) < 512
  · rw [dif_pos h, dif_pos h]
  · rw [dif_neg h, dif_neg h]
    pointwise []
    rfl

theorem refQueries_at (h : FVec Ideal S2x8192x1024 .f32) (w : FVec Ideal S1x1024x1024 .f32) (b : Fin 2) (s : Fin 8192) (e : Fin 1024) :
    refQueries h w (ix3 b s e) = (∑ c : Fin 1024, h (ix3 b s c) * w (ix3 0 c e)) * Ideal.ofBits .f32 0x3E38AA3B#32 := by
  pointwise [refQueries]

theorem ref_keys_at (x : Spec.Rows) (kvmod : FVec Ideal S2x2048 .f32) (kvg : FVec Ideal S1024 .f32) (w : FVec Ideal S1024x2048 .f32) (b : Fin 2) (r : Fin 8704) (e : Fin 1024) :
    refKeys (refWide (refShared x kvmod kvg) w) (ix3 b r e) = keys x kvmod kvg w (ix3 b r e) := by
  rw [refKeys_at]
  simp only [refWide_at, refShared_at]
  rfl

theorem ref_keys (x : Spec.Rows) (kvmod : FVec Ideal S2x2048 .f32) (kvg : FVec Ideal S1024 .f32) (w : FVec Ideal S1024x2048 .f32) :
    refKeys (refWide (refShared x kvmod kvg) w) = keys x kvmod kvg w := by
  funext j
  have hj : j = (ix3 (j 0) (j 1) (j 2) : S2x8704x1024.Idx) := by idx_ext
  exact (congrArg (refKeys (refWide (refShared x kvmod kvg) w)) hj).trans ((ref_keys_at x kvmod kvg w (j 0) (j 1) (j 2)).trans (congrArg (keys x kvmod kvg w) hj.symm))

theorem ref_values_at (x : Spec.Rows) (kvmod : FVec Ideal S2x2048 .f32) (kvg : FVec Ideal S1024 .f32) (w : FVec Ideal S1024x2048 .f32) (b : Fin 2) (r : Fin 8704) (e : Fin 1024) :
    refValues (refWide (refShared x kvmod kvg) w) (ix3 b r e) = values x kvmod kvg w (ix3 b r e) := by
  rw [refValues_at]
  simp only [refWide_at, refShared_at]
  rfl

theorem ref_values (x : Spec.Rows) (kvmod : FVec Ideal S2x2048 .f32) (kvg : FVec Ideal S1024 .f32) (w : FVec Ideal S1024x2048 .f32) :
    refValues (refWide (refShared x kvmod kvg) w) = values x kvmod kvg w := by
  funext j
  have hj : j = (ix3 (j 0) (j 1) (j 2) : S2x8704x1024.Idx) := by idx_ext
  exact (congrArg (refValues (refWide (refShared x kvmod kvg) w)) hj).trans ((ref_values_at x kvmod kvg w (j 0) (j 1) (j 2)).trans (congrArg (values x kvmod kvg w) hj.symm))

theorem ref_queries_at (x : Spec.Rows) (mod : FVec Ideal S2x2x6144 .f32) (ng : FVec Ideal S2x4x1024 .f32) (w : FVec Ideal S1x1024x1024 .f32) (b : Fin 2) (r : Fin 8192) (e : Fin 1024) :
    refQueries (refOwn x mod ng) w (ix3 b r e) = queries x mod ng w (ix3 b r e) := by
  rw [refQueries_at]
  simp only [refOwn_at]
  rfl

theorem ref_queries (x : Spec.Rows) (mod : FVec Ideal S2x2x6144 .f32) (ng : FVec Ideal S2x4x1024 .f32) (w : FVec Ideal S1x1024x1024 .f32) :
    refQueries (refOwn x mod ng) w = queries x mod ng w := by
  funext j
  have hj : j = (ix3 (j 0) (j 1) (j 2) : S2x8192x1024.Idx) := by idx_ext
  exact (congrArg (refQueries (refOwn x mod ng) w) hj).trans ((ref_queries_at x mod ng w (j 0) (j 1) (j 2)).trans (congrArg (queries x mod ng w) hj.symm))

theorem frame_reference : Cert.quiescent_Reference3Ideal := fun m ρ _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m ρ)
end Cert.Proj
end
-- ==== Proof.ProjEnd.lean ====
module

public import proofs.«01_k».proof.Proof.ProjRef
public import Idealize.ShloMosaic.Lib.Pipeline.ValueKit

/-! # The projections: the kernel's blocks, its results, and the reference's -/

@[expose] public section

set_option maxRecDepth 16384

noncomputable section

namespace Cert.Proj

open Idealize.ShloMosaic Idealize.ShloMosaic.TcCoe
open Idealize.ShloMosaic.Pipeline (Dat)

/-- A row of a block of the padded results, and the row it is made from. -/
def rowOut (i : Fin 17) (r : Fin 512) : Fin 8704 := ⟨512 * i + r, by omega⟩
def rowIn (i : Fin 17) (r : Fin 512) : Fin 8192 := ⟨512 * (i - 1) + r, by omega⟩

section
open Cert.Kernel3Ideal Cert.Kernel3Ideal.Gen

theorem idx : ∀ t : Fin cfg0.N,
    win0_0.index t = ![(grid0.coords t 0).val, (grid0.coords t 1).val - 1, 0] ∧ win0_1.index t = ![1, (grid0.coords t 0).val, 0, 0] ∧
    win0_2.index t = ![0, (grid0.coords t 0).val, 0, 0] ∧ win0_3.index t = ![1, 0, 0] ∧ win0_4.index t = ![0, 0] ∧ win0_5.index t = ![0, 0] ∧
    win0_6.index t = ![0, 0] ∧ win0_7.index t = ![(grid0.coords t 0).val, (grid0.coords t 1).val, 0] ∧
    win0_8.index t = ![(grid0.coords t 0).val, (grid0.coords t 1).val, 0] ∧ win0_9.index t = ![(grid0.coords t 0).val, (grid0.coords t 1).val - 1, 0] :=
  (by decide +kernel : ∀ t : Fin grid0.N, _)

/-- The batch and the step of a grid point. -/
theorem point_lt (t : Fin cfg0.N) : (grid0.coords t 0).val < 2 ∧ (grid0.coords t 1).val < 17 := ⟨(grid0.coords t 0).isLt, (grid0.coords t 1).isLt⟩
def batch (t : Fin cfg0.N) : Fin 2 := ⟨(grid0.coords t 0).val, (point_lt t).1⟩
def step (t : Fin cfg0.N) : Fin 17 := ⟨(grid0.coords t 1).val, (point_lt t).2⟩
theorem step_is : ∀ t : Fin cfg0.N, (step t : ℕ) = t.val % 17 := (by decide +kernel : ∀ t : Fin grid0.N, (grid0.coords t 1).val = t.val % 17)

/-- A block of keys or values from what is loaded for it. -/
theorem key_entry (X : Vec Ideal S1x512x1024 .f32) (G : Vec Ideal S1x1024 .f32) (sc sh : Vec Ideal S1x1x1x1024 .f32) (W : Vec Ideal S1024x1024 .bf16)
    (x : Spec.Rows) (kvmod : FVec Ideal S2x2048 .f32) (kvg : FVec Ideal S1024 .f32) (w : FVec Ideal S1024x2048 .f32) (col : Fin 1024 → Fin 2048)
    (b : Fin 2) (i : Fin 17) (hi : 1 ≤ (i : ℕ)) (hX : ∀ (r : Fin 512) (c : Fin 1024), X (ix3 0 r c) = x (ix3 b (rowIn i r) c))
    (hG : ∀ c : Fin 1024, G (ix2 0 c) = kvg (ix1 c)) (hsc : ∀ c : Fin 1024, sc (ix4 0 0 0 c) = kvmod (ix2 b (high c)))
    (hsh : ∀ c : Fin 1024, sh (ix4 0 0 0 c) = kvmod (ix2 b (low c))) (hW : ∀ c e : Fin 1024, W (ix2 c e) = w (ix2 c (col e))) (r : Fin 512) (e : Fin 1024) :
    ∑ c : Fin 1024, k0_pay6 X G sc sh (ix2 r c) * W (ix2 c e) = padded x kvmod kvg w col b (rowOut i r) e := by
  have hr : (⟨(rowOut i r : ℕ) - 512, by have : (rowOut i r : ℕ) = 512 * i + r := rfl; omega⟩ : Fin 8192) = rowIn i r :=
    Fin.ext (by show 512 * (i : ℕ) + r - 512 = 512 * (i - 1) + r; omega)
  unfold padded
  rw [dif_neg (by show ¬ 512 * (i : ℕ) + r < 512; omega), hr]
  simp only [hidden_at, hX, hG, hsc, hsh, hW]
  rfl

theorem query_entry (X : Vec Ideal S1x512x1024 .f32) (G : Vec Ideal S1x1x1024 .f32) (sc sh : Vec Ideal S1x1x1x1024 .f32) (W : Vec Ideal S1024x1024 .bf16)
    (x : Spec.Rows) (mod : FVec Ideal S2x2x6144 .f32) (ng : FVec Ideal S2x4x1024 .f32) (w : FVec Ideal S1x1024x1024 .f32)
    (b : Fin 2) (i : Fin 17) (hX : ∀ (r : Fin 512) (c : Fin 1024), X (ix3 0 r c) = x (ix3 b (rowIn i r) c))
    (hG : ∀ c : Fin 1024, G (ix3 0 0 c) = ng (ix3 1 0 c)) (hsc : ∀ c : Fin 1024, sc (ix4 0 0 0 c) = mod (ix3 1 b (Ffn.modCol 1 c)))
    (hsh : ∀ c : Fin 1024, sh (ix4 0 0 0 c) = mod (ix3 1 b (Ffn.modCol 0 c))) (hW : ∀ c e : Fin 1024, W (ix2 c e) = w (ix3 0 c e)) (r : Fin 512) (e : Fin 1024) :
    k0_pay4 (k0_pay5 X) G sc sh W (ix3 0 r e) = scaled x mod ng w b (rowIn i r) e := by
  rw [query_at]
  simp only [unit_at, hX, hG, hsc, hsh, hW]
  rfl

variable (m : (ℓ : Loc nD τ sig) → Buf (Elt Ideal) ℓ) (c : Dev nD)

/-- The modulation's rows, the norm and the weights as the kernel takes them. -/
def parts (x : FVec Ideal S2x2x6144 .f32) : FVec Ideal S2x2x6x1024 .f32 := shapeCast S2x2x6x1024 x shapeCasts_S2x2x6144_S2x2x6x1024
theorem parts_at (x : FVec Ideal S2x2x6144 .f32) (l b : Fin 2) (k : Fin 6) (e : Fin 1024) : parts x (ix4 l b k e) = x (ix3 l b (Ffn.modCol k e)) := by
  pointwise [parts, Ffn.modCol]
  exact congrArg (fun n => x (ix3 l b n)) (Fin.ext (by show (k : ℕ) * 1024 + e = 1024 * k + e; omega))
def pair (x : FVec Ideal S2x2048 .f32) : FVec Ideal S1x2x2x1024 .f32 := shapeCast S1x2x2x1024 x shapeCasts_S2x2048_S1x2x2x1024
theorem pair_low (x : FVec Ideal S2x2048 .f32) (b : Fin 2) (e : Fin 1024) : pair x (ix4 0 b 0 e) = x (ix2 b (low e)) := by
  pointwise [pair, low]
theorem pair_high (x : FVec Ideal S2x2048 .f32) (b : Fin 2) (e : Fin 1024) : pair x (ix4 0 b 1 e) = x (ix2 b (high e)) := by
  pointwise [pair, high]
def lane (x : FVec Ideal S1024 .f32) : FVec Ideal S1x1024 .f32 := shapeCast S1x1024 x shapeCasts_S1024_S1x1024
theorem lane_at (x : FVec Ideal S1024 .f32) (e : Fin 1024) : lane x (ix2 0 e) = x (ix1 e) := by
  pointwise [lane]
def weights (w : FVec Ideal S1024x2048 .f32) : FVec Ideal S1024x2048 .bf16 := truncf .bf16 w bitsLt_bf16_f32
theorem weights_at (w : FVec Ideal S1024x2048 .f32) (a : Fin 1024) (f : Fin 2048) : weights w (ix2 a f) = w (ix2 a f) := by
  pointwise [weights]
def square (w : FVec Ideal S1x1024x1024 .f32) : FVec Ideal S1024x1024 .bf16 := truncf .bf16 (shapeCast S1024x1024 w shapeCasts_S1x1024x1024_S1024x1024) bitsLt_bf16_f32
theorem square_at (w : FVec Ideal S1x1024x1024 .f32) (a e : Fin 1024) : square w (ix2 a e) = w (ix3 0 a e) := by
  pointwise [square]

theorem read_mod : V m c main_v0 = parts (m ((c : Thread nD τ).loc main_arg1)) := by
  entry_read; rfl
theorem read_pair : V m c main_v1 = pair (m ((c : Thread nD τ).loc main_arg2)) := by
  entry_read; rfl
theorem read_lane : V m c main_v2 = lane (m ((c : Thread nD τ).loc main_arg4)) := by
  entry_read; rfl
theorem read_weights : V m c main_v3 = weights (m ((c : Thread nD τ).loc main_arg5)) := by
  entry_read; rfl
theorem read_square : V m c main_v5 = square (m ((c : Thread nD τ).loc main_arg6)) := by
  entry_read; rfl

section
variable (t : Fin cfg0.N)
theorem place_0 (X : FVec Ideal S2x8192x1024 .f32) (r : Fin 512) (e : Fin 1024) : X (((cfg0.win 0).blk t).view.emb (ix3 0 r e)) = X (ix3 (batch t) (rowIn (step t) r) e) := by
  blk_ext [idx t, batch, step, rowIn]
theorem place_1 (X : FVec Ideal S2x2x6x1024 .f32) (x : Fin 6) (e : Fin 1024) : X (((cfg0.win 1).blk t).view.emb (ix4 0 0 x e)) = X (ix4 1 (batch t) x e) := by
  blk_ext [idx t, batch]
theorem place_2 (X : FVec Ideal S1x2x2x1024 .f32) (x : Fin 2) (e : Fin 1024) : X (((cfg0.win 2).blk t).view.emb (ix4 0 0 x e)) = X (ix4 0 (batch t) x e) := by
  blk_ext [idx t, batch]
theorem place_3 (X : FVec Ideal S2x4x1024 .f32) (x : Fin 4) (e : Fin 1024) : X (((cfg0.win 3).blk t).view.emb (ix3 0 x e)) = X (ix3 1 x e) := by
  blk_ext [idx t]
theorem place_4 (X : FVec Ideal S1x1024 .f32) (e : Fin 1024) : X (((cfg0.win 4).blk t).view.emb (ix2 0 e)) = X (ix2 0 e) := by
  blk_ext [idx t]
theorem place_5 (X : FVec Ideal S1024x2048 .bf16) (a : Fin 1024) (f : Fin 2048) : X (((cfg0.win 5).blk t).view.emb (ix2 a f)) = X (ix2 a f) := by
  blk_ext [idx t]
theorem place_6 (X : FVec Ideal S1024x1024 .bf16) (a e : Fin 1024) : X (((cfg0.win 6).blk t).view.emb (ix2 a e)) = X (ix2 a e) := by
  blk_ext [idx t]
theorem place_7 (X : FVec Ideal S2x8704x1024 .bf16) (r : Fin 512) (e : Fin 1024) : X (((cfg0.win 7).blk t).view.emb (ix3 0 r e)) = X (ix3 (batch t) (rowOut (step t) r) e) := by
  blk_ext [idx t, batch, step, rowOut]
theorem place_8 (X : FVec Ideal S2x8704x1024 .bf16) (r : Fin 512) (e : Fin 1024) : X (((cfg0.win 8).blk t).view.emb (ix3 0 r e)) = X (ix3 (batch t) (rowOut (step t) r) e) := by
  blk_ext [idx t, batch, step, rowOut]
theorem place_9 (X : FVec Ideal S2x8192x1024 .bf16) (r : Fin 512) (e : Fin 1024) : X (((cfg0.win 9).blk t).view.emb (ix3 0 r e)) = X (ix3 (batch t) (rowIn (step t) r) e) := by
  blk_ext [idx t, batch, step, rowIn]

theorem in_x (r : Fin 512) (e : Fin 1024) : iblk m c 0 t (ix3 0 r e) = m ((c : Thread nD τ).loc main_arg0) (ix3 (batch t) (rowIn (step t) r) e) := by
  blk_simp [iblk]
  exact place_0 t _ r e
theorem in_mod (x : Fin 6) (e : Fin 1024) : iblk m c 1 t (ix4 0 0 x e) = m ((c : Thread nD τ).loc main_arg1) (ix3 1 (batch t) (Ffn.modCol x e)) := by
  blk_simp [iblk]
  exact (place_1 t _ x e).trans ((congrFun (read_mod m c) _).trans (parts_at _ 1 (batch t) x e))
theorem in_low (e : Fin 1024) : iblk m c 2 t (ix4 0 0 0 e) = m ((c : Thread nD τ).loc main_arg2) (ix2 (batch t) (low e)) := by
  blk_simp [iblk]
  exact (place_2 t _ 0 e).trans ((congrFun (read_pair m c) _).trans (pair_low _ (batch t) e))
theorem in_high (e : Fin 1024) : iblk m c 2 t (ix4 0 0 1 e) = m ((c : Thread nD τ).loc main_arg2) (ix2 (batch t) (high e)) := by
  blk_simp [iblk]
  exact (place_2 t _ 1 e).trans ((congrFun (read_pair m c) _).trans (pair_high _ (batch t) e))
theorem in_norm (x : Fin 4) (e : Fin 1024) : iblk m c 3 t (ix3 0 x e) = m ((c : Thread nD τ).loc main_arg3) (ix3 1 x e) := by
  blk_simp [iblk]
  exact place_3 t _ x e
theorem in_lane (e : Fin 1024) : iblk m c 4 t (ix2 0 e) = m ((c : Thread nD τ).loc main_arg4) (ix1 e) := by
  blk_simp [iblk]
  exact (place_4 t _ e).trans ((congrFun (read_lane m c) _).trans (lane_at _ e))
theorem in_weights (a : Fin 1024) (f : Fin 2048) : iblk m c 5 t (ix2 a f) = m ((c : Thread nD τ).loc main_arg5) (ix2 a f) := by
  blk_simp [iblk]
  exact (place_5 t _ a f).trans ((congrFun (read_weights m c) _).trans (weights_at _ a f))
theorem in_square (a e : Fin 1024) : iblk m c 6 t (ix2 a e) = m ((c : Thread nD τ).loc main_arg6) (ix3 0 a e) := by
  blk_simp [iblk]
  exact (place_6 t _ a e).trans ((congrFun (read_square m c) _).trans (square_at _ a e))
end

section
theorem rows_low (x : Vec Ideal S1x1x2x1024 .f32) (o : Fin 2) (h : ∀ a, (![0, 0, (o : ℕ), 0] : Fin 4 → ℕ) a + S1x1x1x1024.size a ≤ S1x1x2x1024.size a) (c : Fin 1024) :
    x ((Rect.unit (s := S1x1x2x1024) ![0, 0, (o : ℕ), 0] S1x1x1x1024.size h).idx (ix4 0 0 0 c)) = x (ix4 0 0 o c) :=
  congrArg x (funext fun d => Fin.ext (by
    match d with
    | ⟨0, _⟩ => rfl
    | ⟨1, _⟩ => rfl
    | ⟨2, _⟩ => show (o : ℕ) + 1 * 0 = o; omega
    | ⟨3, _⟩ => show 0 + 1 * (c : ℕ) = c; omega))
theorem rows_mod (x : Vec Ideal S1x1x6x1024 .f32) (o : Fin 6) (h : ∀ a, (![0, 0, (o : ℕ), 0] : Fin 4 → ℕ) a + S1x1x1x1024.size a ≤ S1x1x6x1024.size a) (c : Fin 1024) :
    x ((Rect.unit (s := S1x1x6x1024) ![0, 0, (o : ℕ), 0] S1x1x1x1024.size h).idx (ix4 0 0 0 c)) = x (ix4 0 0 o c) :=
  congrArg x (funext fun d => Fin.ext (by
    match d with
    | ⟨0, _⟩ => rfl
    | ⟨1, _⟩ => rfl
    | ⟨2, _⟩ => show (o : ℕ) + 1 * 0 = o; omega
    | ⟨3, _⟩ => show 0 + 1 * (c : ℕ) = c; omega))
theorem rows_norm (x : Vec Ideal S1x4x1024 .f32) (h : ∀ a, (![0, 0, 0] : Fin 3 → ℕ) a + S1x1x1024.size a ≤ S1x4x1024.size a) (c : Fin 1024) :
    x ((Rect.unit (s := S1x4x1024) ![0, 0, 0] S1x1x1024.size h).idx (ix3 0 0 c)) = x (ix3 0 0 c) :=
  congrArg x (funext fun d => Fin.ext (by
    match d with
    | ⟨0, _⟩ => rfl
    | ⟨1, _⟩ => rfl
    | ⟨2, _⟩ => show 0 + 1 * (c : ℕ) = c; omega))
theorem cols_low (x : Vec Ideal S1024x2048 .bf16) (h : ∀ a, (![0, 0] : Fin 2 → ℕ) a + S1024x1024.size a ≤ S1024x2048.size a) (a e : Fin 1024) :
    x ((Rect.unit (s := S1024x2048) ![0, 0] S1024x1024.size h).idx (ix2 a e)) = x (ix2 a (low e)) :=
  congrArg x (funext fun d => Fin.ext (by
    match d with
    | ⟨0, _⟩ => show 0 + 1 * (a : ℕ) = a; omega
    | ⟨1, _⟩ => show 0 + 1 * (e : ℕ) = e; omega))
theorem cols_high (x : Vec Ideal S1024x2048 .bf16) (h : ∀ a, (![0, 1024] : Fin 2 → ℕ) a + S1024x1024.size a ≤ S1024x2048.size a) (a e : Fin 1024) :
    x ((Rect.unit (s := S1024x2048) ![0, 1024] S1024x1024.size h).idx (ix2 a e)) = x (ix2 a (high e)) :=
  congrArg x (funext fun d => Fin.ext (by
    match d with
    | ⟨0, _⟩ => show 0 + 1 * (a : ℕ) = a; omega
    | ⟨1, _⟩ => show 1024 + 1 * (e : ℕ) = 1024 + e; omega))
end

/-- A first block of keys or values is zero. -/
theorem padded_zero (x : Spec.Rows) (kvmod : FVec Ideal S2x2048 .f32) (kvg : FVec Ideal S1024 .f32) (w : FVec Ideal S1024x2048 .f32) (col : Fin 1024 → Fin 2048)
    (b : Fin 2) (i : Fin 17) (hi : (i : ℕ) = 0) (r : Fin 512) (e : Fin 1024) : padded x kvmod kvg w col b (rowOut i r) e = 0 := by
  unfold padded
  rw [dif_pos (by show 512 * (i : ℕ) + r < 512; omega)]

section
variable (t : Fin cfg0.N) (r : Fin 512) (e : Fin 1024)

/-- What a grid point leaves in the block of keys. -/
theorem key_point : (outsAt0 m c t.val t.isLt).1 (ix3 0 r e) = padded (m ((c : Thread nD τ).loc main_arg0)) (m ((c : Thread nD τ).loc main_arg2))
    (m ((c : Thread nD τ).loc main_arg4)) (m ((c : Thread nD τ).loc main_arg5)) low (batch t) (rowOut (step t) r) e := by
  have hs := step_is t
  by_cases h0 : t.val % 17 = 0
  · rw [outsAt0_A m c t h0 (by omega)]
    frame_out
    exact (zero_key _).trans (padded_zero _ _ _ _ low (batch t) (step t) (hs.trans h0) r e).symm
  · rw [outsAt0_B m c t h0 (by omega)]
    frame_out
    exact (key_at _ _ _ _ _ r e).trans (key_entry (iblk m c 0 t) (iblk m c 4 t) _ _ _ _ _ _ _ low (batch t) (step t) (by omega)
      (in_x m c t) (in_lane m c t) (fun a => (rows_low (iblk m c 2 t) 1 _ a).trans (in_high m c t a)) (fun a => (rows_low (iblk m c 2 t) 0 _ a).trans (in_low m c t a))
      (fun a e => (cols_low (iblk m c 5 t) _ a e).trans (in_weights m c t a (low e))) r e)

/-- What a grid point leaves in the block of values. -/
theorem value_point : (outsAt0 m c t.val t.isLt).2.1 (ix3 0 r e) = padded (m ((c : Thread nD τ).loc main_arg0)) (m ((c : Thread nD τ).loc main_arg2))
    (m ((c : Thread nD τ).loc main_arg4)) (m ((c : Thread nD τ).loc main_arg5)) high (batch t) (rowOut (step t) r) e := by
  have hs := step_is t
  by_cases h0 : t.val % 17 = 0
  · rw [outsAt0_A m c t h0 (by omega)]
    frame_out
    exact (zero_value _).trans (padded_zero _ _ _ _ high (batch t) (step t) (hs.trans h0) r e).symm
  · rw [outsAt0_B m c t h0 (by omega)]
    frame_out
    exact (value_at _ _ r e).trans (key_entry (iblk m c 0 t) (iblk m c 4 t) _ _ _ _ _ _ _ high (batch t) (step t) (by omega)
      (in_x m c t) (in_lane m c t) (fun a => (rows_low (iblk m c 2 t) 1 _ a).trans (in_high m c t a)) (fun a => (rows_low (iblk m c 2 t) 0 _ a).trans (in_low m c t a))
      (fun a e => (cols_high (iblk m c 5 t) _ a e).trans (in_weights m c t a (high e))) r e)

/-- What a grid point past the first of its batch leaves in the block of queries. -/
theorem query_point (h0 : ¬ t.val % 17 = 0) : (outsAt0 m c t.val t.isLt).2.2 (ix3 0 r e) = scaled (m ((c : Thread nD τ).loc main_arg0)) (m ((c : Thread nD τ).loc main_arg1))
    (m ((c : Thread nD τ).loc main_arg3)) (m ((c : Thread nD τ).loc main_arg6)) (batch t) (rowIn (step t) r) e := by
  rw [outsAt0_B m c t h0 (by omega)]
  frame_out
  exact query_entry (iblk m c 0 t) _ _ _ (iblk m c 6 t) _ _ _ _ (batch t) (step t)
    (in_x m c t) (fun a => (rows_norm (iblk m c 3 t) _ a).trans (in_norm m c t 0 a)) (fun a => (rows_mod (iblk m c 1 t) 1 _ a).trans (in_mod m c t 1 a))
    (fun a => (rows_mod (iblk m c 1 t) 0 _ a).trans (in_mod m c t 0 a)) (in_square m c t) r e
end

/-- The first point of a batch writes no queries back. -/
theorem flushed : ∀ t : Fin cfg0.N, (cfg0.win 9).flush t = true → ¬ t.val % 17 = 0 := by decide +kernel

theorem final_keys : (dats m 0 c).arrAt 7 cfg0.N = keys (m ((c : Thread nD τ).loc main_arg0)) (m ((c : Thread nD τ).loc main_arg2))
    (m ((c : Thread nD τ).loc main_arg4)) (m ((c : Thread nD τ).loc main_arg5)) := by
  refine (dats m 0 c).arrAt_eq_of_covers 7 _ (by decide +kernel) fun t _ y => ?_
  blk_simp
  rw [after0_7]
  have hy : y = (ix3 0 (y 1) (y 2) : S1x512x1024.Idx) := by idx_ext
  rw [hy]
  exact (key_point m c t (y 1) (y 2)).trans (place_7 t (keys (m ((c : Thread nD τ).loc main_arg0)) (m ((c : Thread nD τ).loc main_arg2))
    (m ((c : Thread nD τ).loc main_arg4)) (m ((c : Thread nD τ).loc main_arg5))) (y 1) (y 2)).symm

theorem final_values : (dats m 0 c).arrAt 8 cfg0.N = values (m ((c : Thread nD τ).loc main_arg0)) (m ((c : Thread nD τ).loc main_arg2))
    (m ((c : Thread nD τ).loc main_arg4)) (m ((c : Thread nD τ).loc main_arg5)) := by
  refine (dats m 0 c).arrAt_eq_of_covers 8 _ (by decide +kernel) fun t _ y => ?_
  blk_simp
  rw [after0_8]
  have hy : y = (ix3 0 (y 1) (y 2) : S1x512x1024.Idx) := by idx_ext
  rw [hy]
  exact (value_point m c t (y 1) (y 2)).trans (place_8 t (values (m ((c : Thread nD τ).loc main_arg0)) (m ((c : Thread nD τ).loc main_arg2))
    (m ((c : Thread nD τ).loc main_arg4)) (m ((c : Thread nD τ).loc main_arg5))) (y 1) (y 2)).symm

theorem final_queries : (dats m 0 c).arrAt 9 cfg0.N = queries (m ((c : Thread nD τ).loc main_arg0)) (m ((c : Thread nD τ).loc main_arg1))
    (m ((c : Thread nD τ).loc main_arg3)) (m ((c : Thread nD τ).loc main_arg6)) := by
  refine (dats m 0 c).arrAt_eq_of_covers 9 _ (by decide +kernel) fun t hf y => ?_
  have h0 := flushed t hf
  blk_simp
  rw [after0_9]
  have hy : y = (ix3 0 (y 1) (y 2) : S1x512x1024.Idx) := by idx_ext
  rw [hy]
  exact (query_point m c t (y 1) (y 2) h0).trans (place_9 t (queries (m ((c : Thread nD τ).loc main_arg0)) (m ((c : Thread nD τ).loc main_arg1))
    (m ((c : Thread nD τ).loc main_arg3)) (m ((c : Thread nD τ).loc main_arg6))) (y 1) (y 2)).symm
end

/-- The kernel's run and the reference's end at the same keys, values and queries. -/
theorem same : Cert.algebraic_Kernel3Ideal_Reference3Ideal := by
  intro m g m' g' _ hagree
  refine ⟨fun c => keys (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
      fun c => values (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
      fun c => queries (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg6)), ?_, ?_⟩
  · exact (θ_run Cert.Kernel3Ideal.defs _ _).mono (fun r h c => ⟨(h c).1.trans (final_keys m c), (h c).2.1.trans (final_values m c),
      (h c).2.2.1.trans (final_queries m c), (h c).2.2.2⟩) (Cert.Kernel3Ideal.Value.run_blocks m g)
  · refine (θ_run Cert.Reference3Ideal.defs _ _).mono (fun r h c => ⟨(h c).1.trans ((ref_keys _ _ _ _).trans ?_), (h c).2.1.trans ((ref_values _ _ _ _).trans ?_),
      (h c).2.2.1.trans ((ref_queries _ _ _ _).trans ?_), (h c).2.2.2⟩) (Cert.Reference3Ideal.Value.run m' g')
    all_goals
      obtain ⟨e0, e1, e2, e3, e4, e5, e6⟩ := hagree c
      simp only [e0, e1, e2, e3, e4, e5, e6]
end Cert.Proj
end
-- ==== Proof.lean ====
/- The proof of the certificate's claim: the projections, from the layer's rows to queries, keys and values, the banded
   attention, from these to the layer's gated sum, and the layer's feed-forward part, from that sum to the layer's result,
   equal the layer's own mathematics over the extended reals, and the programs run. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Pre
public import proofs.«01_k».proof.Proof.FfnEnd
public import proofs.«01_k».proof.Proof.ProjEnd

@[expose] public section

theorem Cert.Proof.claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Attention.finite_facts,
    fun m ρ _ => Cert.Kernel.Gen.frame m ρ, fun m ρ _ => Cert.KernelIdeal.Gen.frame m ρ, fun m ρ _ => Cert.KernelIdeal.Gen.frame m ρ,
    Cert.Attention.frame_reference, fun m ρ _ => Cert.Attention.frame_reference m ρ trivial,
    fun m ρ _ => Cert.Kernel2.Gen.frame m ρ, fun m ρ _ => Cert.Kernel2Ideal.Gen.frame m ρ, Cert.Ffn.frame_reference,
    fun m ρ _ => Cert.Kernel3.Gen.frame m ρ, fun m ρ _ => Cert.Kernel3Ideal.Gen.frame m ρ, Cert.Proj.frame_reference,
    Cert.Attention.named, Cert.Attention.same, trivial, Cert.Ffn.same, trivial, Cert.Proj.same⟩
